-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_plus_infinity [hPre_no_plus_infinity : Cert.Pre_no_plus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_no_plus_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_plus_infinity [hPre_no_plus_infinity : Cert.Pre_no_plus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_plus_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_plus_infinity [hKernelIdeal : Cert.KernelIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_plus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_plus_infinity [hReferenceIdeal : Cert.ReferenceIdeal.Facts] [hPre_no_plus_infinity : Cert.Pre_no_plus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_plus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_no_plus_infinity [hKernelIdeal : Cert.KernelIdeal.Facts] [hReferenceIdeal : Cert.ReferenceIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_plus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_plus_infinity : Cert.Pre_no_plus_infinity.Facts),
    quiescent_Kernel (hKernel := hKernel)
    ∧ quiescent_KernelIdeal (hKernelIdeal := hKernelIdeal)
    ∧ quiescent_KernelIdeal_pre_no_plus_infinity (hKernelIdeal := hKernelIdeal) (hPre_no_plus_infinity := hPre_no_plus_infinity)
    ∧ quiescent_ReferenceIdeal (hReferenceIdeal := hReferenceIdeal)
    ∧ quiescent_ReferenceIdeal_pre_no_plus_infinity (hReferenceIdeal := hReferenceIdeal) (hPre_no_plus_infinity := hPre_no_plus_infinity)
    ∧ preserves_Kernel_KernelIdeal
    ∧ algebraic_KernelIdeal_ReferenceIdeal_pre_no_plus_infinity (hKernelIdeal := hKernelIdeal) (hReferenceIdeal := hReferenceIdeal) (hPre_no_plus_infinity := hPre_no_plus_infinity)
-- ==== Pre_no_plus_infinity.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_cst : FVec F S_ .f32 := constant S_ .f32 0x7F800000#32
  let main_v0 : FVec F S1024x1024 .f32 := broadcastInDim S1024x1024 ![] bcast_S_S1024x1024 main_cst
  let main_v1 : IVec S1024x1024 1 := cmpf .olt main_arg0 main_v0
  let main_c : IVec S_ 1 := constantI S_ 1 1#1
  let main_v2 : IVec S_ 1 := (fun x v => Host.reduce IntOp.andi x v reducesTo_S1024x1024_S_d0_1 h_S_) main_v1 main_c
  main_v2
-- ==== Kernel.lean ====
abbrev S1024x1024 : Shape := ⟨2, ![1024, 1024]⟩
abbrev S1023x1023 : Shape := ⟨2, ![1023, 1023]⟩
abbrev S_ : Shape := ⟨0, ![]⟩
abbrev S1023x2046 : Shape := ⟨2, ![1023, 2046]⟩
abbrev S2093058 : Shape := ⟨1, ![2093058]⟩
abbrev S2092035 : Shape := ⟨1, ![2092035]⟩
abbrev S1023x2045 : Shape := ⟨2, ![1023, 2045]⟩
abbrev S2045x1023 : Shape := ⟨2, ![2045, 1023]⟩
abbrev S2048x1024 : Shape := ⟨2, ![2048, 1024]⟩
abbrev S2048x1x1024 : Shape := ⟨3, ![2048, 1, 1024]⟩
abbrev S1x1 : Shape := ⟨2, ![1, 1]⟩
abbrev S16x1x1024 : Shape := ⟨3, ![16, 1, 1024]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S1023 : Shape := ⟨1, ![1023]⟩
abbrev S1x1x1 : Shape := ⟨3, ![1, 1, 1]⟩

abbrev nBuf : Space → Nat
  | .hbm => 27
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S1023x1023, .f32⟩
  | .hbm, ⟨2, _⟩ => ⟨S1023x1023, .f32⟩
  | .hbm, ⟨3, _⟩ => ⟨S_, .f32⟩
  | .hbm, ⟨4, _⟩ => ⟨S_, .f32⟩
  | .hbm, ⟨5, _⟩ => ⟨S1023x2046, .f32⟩
  | .hbm, ⟨6, _⟩ => ⟨S2093058, .f32⟩
  | .hbm, ⟨7, _⟩ => ⟨S2092035, .f32⟩
  | .hbm, ⟨8, _⟩ => ⟨S1023x2045, .f32⟩
  | .hbm, ⟨9, _⟩ => ⟨S2045x1023, .f32⟩
  | .hbm, ⟨10, _⟩ => ⟨S_, .f32⟩
  | .hbm, ⟨11, _⟩ => ⟨S_, .f32⟩
  | .hbm, ⟨12, _⟩ => ⟨S2048x1024, .f32⟩
  | .hbm, ⟨13, _⟩ => ⟨S2048x1x1024, .f32⟩
  | .hbm, ⟨14, _⟩ => ⟨S_, .f32⟩
  | .hbm, ⟨15, _⟩ => ⟨S_, .f32⟩
  | .hbm, ⟨16, _⟩ => ⟨S1023x2046, .f32⟩
  | .hbm, ⟨17, _⟩ => ⟨S2093058, .f32⟩
  | .hbm, ⟨18, _⟩ => ⟨S2092035, .f32⟩
  | .hbm, ⟨19, _⟩ => ⟨S1023x2045, .f32⟩
  | .hbm, ⟨20, _⟩ => ⟨S2045x1023, .f32⟩
  | .hbm, ⟨21, _⟩ => ⟨S_, .f32⟩
  | .hbm, ⟨22, _⟩ => ⟨S_, .f32⟩
  | .hbm, ⟨23, _⟩ => ⟨S2048x1024, .f32⟩
  | .hbm, ⟨24, _⟩ => ⟨S2048x1x1024, .f32⟩
  | .hbm, ⟨25, _⟩ => ⟨S1x1, .f32⟩
  | .hbm, ⟨26, _⟩ => ⟨S_, .f32⟩
  | .local _ .vmem, ⟨0, _⟩ => ⟨S16x1x1024, .f32⟩
  | .local _ .vmem, ⟨1, _⟩ => ⟨S16x1x1024, .f32⟩
  | .local _ .vmem, ⟨2, _⟩ => ⟨S16x1x1024, .f32⟩
  | .local _ .vmem, ⟨3, _⟩ => ⟨S16x1x1024, .f32⟩
  | .local _ .vmem, ⟨4, _⟩ => ⟨S1x1, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_call0_v0 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_0 : Ref sig .tc := ⟨.hbm, 10, rfl⟩
abbrev main_call0_call1_v0 : Ref sig .tc := ⟨.hbm, 11, rfl⟩
abbrev main_call0_v7 : Ref sig .tc := ⟨.hbm, 12, rfl⟩
abbrev main_call0_v8 : Ref sig .tc := ⟨.hbm, 13, rfl⟩
abbrev main_call0_cst_1 : Ref sig .tc := ⟨.hbm, 14, rfl⟩
abbrev main_call0_call2_v0 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_cst_2 : Ref sig .tc := ⟨.hbm, 21, rfl⟩
abbrev main_call0_call3_v0 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v869 : BitVec 1 := Scalar.cmpi .eq arg0 c127_i32
  let v870 : BitVec 32 := Scalar.extui v869
  let c0_i32_170 : BitVec 32 := 0#32
  let v871 : BitVec 1 := Scalar.cmpi .ne v870 c0_i32_170
  v871

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S3 : Shape := ⟨1, ![3]⟩
abbrev S1023x1023 : Shape := ⟨2, ![1023, 1023]⟩
abbrev S_ : Shape := ⟨0, ![]⟩
abbrev S2045x1023 : Shape := ⟨2, ![2045, 1023]⟩
abbrev S1023x1023x1 : Shape := ⟨3, ![1023, 1023, 1]⟩
abbrev S1023x1023x2 : Shape := ⟨3, ![1023, 1023, 2]⟩
abbrev S2045 : Shape := ⟨1, ![2045]⟩
abbrev S2x1023x3 : Shape := ⟨3, ![2, 1023, 3]⟩
abbrev S2045x1023x3 : Shape := ⟨3, ![2045, 1023, 3]⟩
abbrev S1x1023 : Shape := ⟨2, ![1, 1023]⟩
abbrev S1023 : Shape := ⟨1, ![1023]⟩
abbrev S1 : Shape := ⟨1, ![1]⟩
abbrev S1x1023x3 : Shape := ⟨3, ![1, 1023, 3]⟩
abbrev S1023x3 : Shape := ⟨2, ![1023, 3]⟩
abbrev S1023x4 : Shape := ⟨2, ![1023, 4]⟩
abbrev S1023x1 : Shape := ⟨2, ![1023, 1]⟩
abbrev S1022x3 : Shape := ⟨2, ![1022, 3]⟩
abbrev S1x3 : Shape := ⟨2, ![1, 3]⟩
abbrev S1023x2 : Shape := ⟨2, ![1023, 2]⟩
abbrev S2092035x3 : Shape := ⟨2, ![2092035, 3]⟩
abbrev S1023x1023x3 : Shape := ⟨3, ![1023, 1023, 3]⟩
abbrev S1x1x1 : Shape := ⟨3, ![1, 1, 1]⟩

abbrev nBuf : Space → Nat
  | .hbm => 222
  | .vmem => 0
  | .smem => 0
  | _ => 0

abbrev hbmTy0_0 (i : Nat) : BufTy := match i % 128 with
  | 0 => ⟨S1024x1024, .f32⟩
  | 1 => ⟨S3, .f32⟩
  | 2 => ⟨S3, .f32⟩
  | 3 => ⟨S1023x1023, .f32⟩
  | 4 => ⟨S1023x1023, .i32⟩
  | 5 => ⟨S1023x1023, .i32⟩
  | 6 => ⟨S1023x1023, .i32⟩
  | 7 => ⟨S_, .i32⟩
  | 8 => ⟨S1023x1023, .i32⟩
  | 9 => ⟨S1023x1023, .i32⟩
  | 10 => ⟨S1023x1023, .i32⟩
  | 11 => ⟨S_, .i32⟩
  | 12 => ⟨S1023x1023, .i32⟩
  | 13 => ⟨S1023x1023, .i32⟩
  | 14 => ⟨S_, .f32⟩
  | 15 => ⟨S2045x1023, .f32⟩
  | 16 => ⟨S1023x1023, .i32⟩
  | 17 => ⟨S1023x1023, .i32⟩
  | 18 => ⟨S1023x1023x1, .i32⟩
  | 19 => ⟨S1023x1023x1, .i32⟩
  | 20 => ⟨S1023x1023x2, .i32⟩
  | 21 => ⟨S2045x1023, .f32⟩
  | 22 => ⟨S2045, .i32⟩
  | 23 => ⟨S_, .i32⟩
  | 24 => ⟨S2045, .i32⟩
  | 25 => ⟨S2045, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S2045, .i32⟩
  | 33 => ⟨S2045, .i32⟩
  | 34 => ⟨S_, .i32⟩
  | 35 => ⟨S2045, .i32⟩
  | 36 => ⟨S2045, .i1⟩
  | 37 => ⟨S_, .i32⟩
  | 38 => ⟨S2045, .i32⟩
  | 39 => ⟨S2045, .i1⟩
  | 40 => ⟨S_, .i32⟩
  | 41 => ⟨S_, .i1⟩
  | 42 => ⟨S2045, .i1⟩
  | 43 => ⟨S2045, .i1⟩
  | 44 => ⟨S2045, .i1⟩
  | 45 => ⟨S2045, .i32⟩
  | 46 => ⟨S2045, .i32⟩
  | 47 => ⟨S2045, .i32⟩
  | 48 => ⟨S_, .f32⟩
  | 49 => ⟨S2x1023x3, .f32⟩
  | 50 => ⟨S_, .f32⟩
  | 51 => ⟨S2045x1023x3, .f32⟩
  | 52 => ⟨S_, .i32⟩
  | 53 => ⟨S2045x1023, .f32⟩
  | 54 => ⟨S2045, .i32⟩
  | 55 => ⟨S3, .f32⟩
  | 56 => ⟨S3, .f32⟩
  | 57 => ⟨S_, .i32⟩
  | 58 => ⟨S2x1023x3, .f32⟩
  | 59 => ⟨S2045x1023x3, .f32⟩
  | 60 => ⟨S_, .i32⟩
  | 61 => ⟨S_, .i1⟩
  | 62 => ⟨S_, .i32⟩
  | 63 => ⟨S1x1023, .f32⟩
  | 64 => ⟨S1023, .f32⟩
  | 65 => ⟨S1, .i32⟩
  | 66 => ⟨S_, .i32⟩
  | 67 => ⟨S1x1023x3, .f32⟩
  | 68 => ⟨S1023x3, .f32⟩
  | 69 => ⟨S1x1023x3, .f32⟩
  | 70 => ⟨S1023x3, .f32⟩
  | 71 => ⟨S_, .i32⟩
  | 72 => ⟨S_, .f32⟩
  | 73 => ⟨S1023x4, .f32⟩
  | 74 => ⟨S1023x1, .f32⟩
  | 75 => ⟨S1023x4, .f32⟩
  | 76 => ⟨S1023x4, .f32⟩
  | 77 => ⟨S1022x3, .f32⟩
  | 78 => ⟨S_, .f32⟩
  | 79 => ⟨S_, .f32⟩
  | 80 => ⟨S1023x3, .f32⟩
  | 81 => ⟨S1022x3, .f32⟩
  | 82 => ⟨S_, .f32⟩
  | 83 => ⟨S_, .f32⟩
  | 84 => ⟨S1023x3, .f32⟩
  | 85 => ⟨S_, .i32⟩
  | 86 => ⟨S_, .i1⟩
  | 87 => ⟨S1023x3, .f32⟩
  | 88 => ⟨S_, .i32⟩
  | 89 => ⟨S_, .i1⟩
  | 90 => ⟨S1023x3, .f32⟩
  | 91 => ⟨S1x3, .f32⟩
  | 92 => ⟨S1023x3, .f32⟩
  | 93 => ⟨S1023x3, .f32⟩
  | 94 => ⟨S1x3, .f32⟩
  | 95 => ⟨S1023x3, .f32⟩
  | 96 => ⟨S1023x3, .f32⟩
  | 97 => ⟨S1023x2, .f32⟩
  | 98 => ⟨S_, .f32⟩
  | 99 => ⟨S1023x4, .f32⟩
  | 100 => ⟨S1023x4, .f32⟩
  | 101 => ⟨S_, .f32⟩
  | 102 => ⟨S1023, .f32⟩
  | 103 => ⟨S1023, .f32⟩
  | 104 => ⟨S_, .f32⟩
  | 105 => ⟨S1023, .f32⟩
  | 106 => ⟨S1023, .i1⟩
  | 107 => ⟨S_, .f32⟩
  | 108 => ⟨S1023, .f32⟩
  | 109 => ⟨S1023, .f32⟩
  | 110 => ⟨S1023x1, .f32⟩
  | 111 => ⟨S1023x4, .f32⟩
  | 112 => ⟨S1023x4, .f32⟩
  | 113 => ⟨S1023x4, .f32⟩
  | 114 => ⟨S_, .f32⟩
  | 115 => ⟨S1023, .f32⟩
  | 116 => ⟨S1023, .f32⟩
  | 117 => ⟨S1023, .f32⟩
  | 118 => ⟨S_, .f32⟩
  | 119 => ⟨S1023, .f32⟩
  | 120 => ⟨S1023, .f32⟩
  | 121 => ⟨S_, .f32⟩
  | 122 => ⟨S1023x2, .f32⟩
  | 123 => ⟨S1023x2, .f32⟩
  | 124 => ⟨S_, .f32⟩
  | 125 => ⟨S1023, .f32⟩
  | 126 => ⟨S1023, .f32⟩
  | 127 => ⟨S_, .f32⟩
  | _ => ⟨S1024x1024, .f32⟩

abbrev hbmTy0_1 (i : Nat) : BufTy := match i % 128 with
  | 0 => ⟨S1023, .f32⟩
  | 1 => ⟨S1023, .i1⟩
  | 2 => ⟨S_, .f32⟩
  | 3 => ⟨S1023, .f32⟩
  | 4 => ⟨S1023, .f32⟩
  | 5 => ⟨S1023x1, .f32⟩
  | 6 => ⟨S1023x2, .f32⟩
  | 7 => ⟨S1023x2, .f32⟩
  | 8 => ⟨S1023x2, .f32⟩
  | 9 => ⟨S_, .f32⟩
  | 10 => ⟨S1023, .f32⟩
  | 11 => ⟨S1023, .f32⟩
  | 12 => ⟨S1023, .f32⟩
  | 13 => ⟨S_, .f32⟩
  | 14 => ⟨S1023, .f32⟩
  | 15 => ⟨S1023, .f32⟩
  | 16 => ⟨S_, .f32⟩
  | 17 => ⟨S1023x3, .f32⟩
  | 18 => ⟨S1023x3, .f32⟩
  | 19 => ⟨S_, .f32⟩
  | 20 => ⟨S1023, .f32⟩
  | 21 => ⟨S1023, .f32⟩
  | 22 => ⟨S_, .f32⟩
  | 23 => ⟨S1023, .f32⟩
  | 24 => ⟨S1023, .i1⟩
  | 25 => ⟨S_, .f32⟩
  | 26 => ⟨S1023, .f32⟩
  | 27 => ⟨S1023, .f32⟩
  | 28 => ⟨S1023x1, .f32⟩
  | 29 => ⟨S1023x3, .f32⟩
  | 30 => ⟨S1023x3, .f32⟩
  | 31 => ⟨S1023x3, .f32⟩
  | 32 => ⟨S_, .f32⟩
  | 33 => ⟨S1023, .f32⟩
  | 34 => ⟨S1023, .f32⟩
  | 35 => ⟨S1023, .f32⟩
  | 36 => ⟨S_, .f32⟩
  | 37 => ⟨S1023, .f32⟩
  | 38 => ⟨S1023, .f32⟩
  | 39 => ⟨S1023x1, .f32⟩
  | 40 => ⟨S1023x1, .f32⟩
  | 41 => ⟨S1023x1, .f32⟩
  | 42 => ⟨S1023x3, .f32⟩
  | 43 => ⟨S1x1023x3, .f32⟩
  | 44 => ⟨S1x1023x3, .f32⟩
  | 45 => ⟨S2x1023x3, .f32⟩
  | 46 => ⟨S1x1023x3, .f32⟩
  | 47 => ⟨S_, .i32⟩
  | 48 => ⟨S_, .i32⟩
  | 49 => ⟨S2045x1023x3, .f32⟩
  | 50 => ⟨S_, .i32⟩
  | 51 => ⟨S_, .i32⟩
  | 52 => ⟨S1023x1023, .i32⟩
  | 53 => ⟨S1023x1023, .i32⟩
  | 54 => ⟨S1023x1023, .i32⟩
  | 55 => ⟨S_, .i32⟩
  | 56 => ⟨S1023x1023, .i32⟩
  | 57 => ⟨S1023x1023, .i32⟩
  | 58 => ⟨S1023x1023, .i32⟩
  | 59 => ⟨S_, .i32⟩
  | 60 => ⟨S1023x1023, .i32⟩
  | 61 => ⟨S1023x1023, .i32⟩
  | 62 => ⟨S2092035x3, .f32⟩
  | 63 => ⟨S_, .i32⟩
  | 64 => ⟨S1023x1023, .i32⟩
  | 65 => ⟨S1023x1023, .i32⟩
  | 66 => ⟨S1023x1023, .i32⟩
  | 67 => ⟨S1023x1023, .i32⟩
  | 68 => ⟨S1023x1023x1, .i32⟩
  | 69 => ⟨S1023x1023x3, .f32⟩
  | 70 => ⟨S1023x1023, .f32⟩
  | 71 => ⟨S1023x1023x1, .f32⟩
  | 72 => ⟨S1023x1023x3, .f32⟩
  | 73 => ⟨S1023x1023x3, .f32⟩
  | 74 => ⟨S_, .f32⟩
  | 75 => ⟨S1023x1023x3, .f32⟩
  | 76 => ⟨S1023x1023x3, .f32⟩
  | 77 => ⟨S_, .f32⟩
  | 78 => ⟨S_, .f32⟩
  | 79 => ⟨S_, .f32⟩
  | 80 => ⟨S_, .f32⟩
  | 81 => ⟨S_, .i1⟩
  | 82 => ⟨S_, .f32⟩
  | 83 => ⟨S_, .f32⟩
  | 84 => ⟨S1x1x1, .f32⟩
  | 85 => ⟨S1023x1023x3, .f32⟩
  | 86 => ⟨S1023x1023x3, .f32⟩
  | 87 => ⟨S1023x1023x3, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v19 : Ref sig .tc := ⟨.hbm, 47, rfl⟩
abbrev main_cst_5 : Ref sig .tc := ⟨.hbm, 48, rfl⟩
abbrev main_v20 : Ref sig .tc := ⟨.hbm, 49, rfl⟩
abbrev main_cst_6 : Ref sig .tc := ⟨.hbm, 50, rfl⟩
abbrev main_v21 : Ref sig .tc := ⟨.hbm, 51, rfl⟩
abbrev main_c_7 : Ref sig .tc := ⟨.hbm, 52, rfl⟩
abbrev main_v22_0 : Ref sig .tc := ⟨.hbm, 53, rfl⟩
abbrev main_v22_1 : Ref sig .tc := ⟨.hbm, 54, rfl⟩
abbrev main_v22_2 : Ref sig .tc := ⟨.hbm, 55, rfl⟩
abbrev main_v22_3 : Ref sig .tc := ⟨.hbm, 56, rfl⟩
abbrev main_v22_4 : Ref sig .tc := ⟨.hbm, 57, rfl⟩
abbrev main_v22_5 : Ref sig .tc := ⟨.hbm, 58, rfl⟩
abbrev main_v22_6 : Ref sig .tc := ⟨.hbm, 59, rfl⟩
abbrev main_while0c_c_23 : Ref sig .tc := ⟨.hbm, 60, rfl⟩
abbrev main_while0c_v56 : Ref sig .tc := ⟨.hbm, 61, rfl⟩
abbrev main_while0b_call1_c : Ref sig .tc := ⟨.hbm, 62, rfl⟩
abbrev main_while0b_call1_v0 : Ref sig .tc := ⟨.hbm, 63, rfl⟩
abbrev main_while0b_v56 : Ref sig .tc := ⟨.hbm, 64, rfl⟩
abbrev main_while0b_call2_v0 : Ref sig .tc := ⟨.hbm, 65, rfl⟩
abbrev main_while0b_v57 : Ref sig .tc := ⟨.hbm, 66, rfl⟩
abbrev main_while0b_v58 : Ref sig .tc := ⟨.hbm, 67, rfl⟩
abbrev main_while0b_v59 : Ref sig .tc := ⟨.hbm, 68, rfl⟩
abbrev main_while0b_v60 : Ref sig .tc := ⟨.hbm, 69, rfl⟩
abbrev main_while0b_v61 : Ref sig .tc := ⟨.hbm, 70, rfl⟩
abbrev main_while0b_c_23 : Ref sig .tc := ⟨.hbm, 71, rfl⟩
abbrev main_while0b_call3_v0 : Ref sig .tc := ⟨.hbm, 72, rfl⟩
abbrev main_while0b_v62 : Ref sig .tc := ⟨.hbm, 73, rfl⟩
abbrev main_while0b_v63 : Ref sig .tc := ⟨.hbm, 74, rfl⟩
abbrev main_while0b_v64 : Ref sig .tc := ⟨.hbm, 75, rfl⟩
abbrev main_while0b_v65 : Ref sig .tc := ⟨.hbm, 76, rfl⟩
abbrev main_while0b_v66 : Ref sig .tc := ⟨.hbm, 77, rfl⟩
abbrev main_while0b_cst_24 : Ref sig .tc := ⟨.hbm, 78, rfl⟩
abbrev main_while0b_call4_v0 : Ref sig .tc := ⟨.hbm, 79, rfl⟩
abbrev main_while0b_v67 : Ref sig .tc := ⟨.hbm, 80, rfl⟩
abbrev main_while0b_v68 : Ref sig .tc := ⟨.hbm, 81, rfl⟩
abbrev main_while0b_cst_25 : Ref sig .tc := ⟨.hbm, 82, rfl⟩
abbrev main_while0b_call5_v0 : Ref sig .tc := ⟨.hbm, 83, rfl⟩
abbrev main_while0b_v69 : Ref sig .tc := ⟨.hbm, 84, rfl⟩
abbrev main_while0b_c_26 : Ref sig .tc := ⟨.hbm, 85, rfl⟩
abbrev main_while0b_v70 : Ref sig .tc := ⟨.hbm, 86, rfl⟩
abbrev main_while0b_v71 : Ref sig .tc := ⟨.hbm, 87, rfl⟩
abbrev main_while0b_c_27 : Ref sig .tc := ⟨.hbm, 88, rfl⟩
abbrev main_while0b_v72 : Ref sig .tc := ⟨.hbm, 89, rfl⟩
abbrev main_while0b_v73 : Ref sig .tc := ⟨.hbm, 90, rfl⟩
abbrev main_while0b_v74 : Ref sig .tc := ⟨.hbm, 91, rfl⟩
abbrev main_while0b_v75 : Ref sig .tc := ⟨.hbm, 92, rfl⟩
abbrev main_while0b_v76 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_v80 : Ref sig .tc := ⟨.hbm, 97, rfl⟩
abbrev main_while0b_cst_28 : Ref sig .tc := ⟨.hbm, 98, rfl⟩
abbrev main_while0b_v81 : Ref sig .tc := ⟨.hbm, 99, rfl⟩
abbrev main_while0b_v82 : Ref sig .tc := ⟨.hbm, 100, rfl⟩
abbrev main_while0b_cst_29 : Ref sig .tc := ⟨.hbm, 101, rfl⟩
abbrev main_while0b_v83 : Ref sig .tc := ⟨.hbm, 102, rfl⟩
abbrev main_while0b_v84 : Ref sig .tc := ⟨.hbm, 103, rfl⟩
abbrev main_while0b_cst_30 : Ref sig .tc := ⟨.hbm, 104, rfl⟩
abbrev main_while0b_v85 : Ref sig .tc := ⟨.hbm, 105, rfl⟩
abbrev main_while0b_v86 : Ref sig .tc := ⟨.hbm, 106, rfl⟩
abbrev main_while0b_cst_31 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_cst_32 : Ref sig .tc := ⟨.hbm, 114, rfl⟩
abbrev main_while0b_v93 : Ref sig .tc := ⟨.hbm, 115, rfl⟩
abbrev main_while0b_v94 : Ref sig .tc := ⟨.hbm, 116, rfl⟩
abbrev main_while0b_v95 : Ref sig .tc := ⟨.hbm, 117, rfl⟩
abbrev main_while0b_cst_33 : Ref sig .tc := ⟨.hbm, 118, rfl⟩
abbrev main_while0b_v96 : Ref sig .tc := ⟨.hbm, 119, rfl⟩
abbrev main_while0b_v97 : Ref sig .tc := ⟨.hbm, 120, rfl⟩
abbrev main_while0b_cst_34 : Ref sig .tc := ⟨.hbm, 121, rfl⟩
abbrev main_while0b_v98 : Ref sig .tc := ⟨.hbm, 122, rfl⟩
abbrev main_while0b_v99 : Ref sig .tc := ⟨.hbm, 123, rfl⟩
abbrev main_while0b_cst_35 : Ref sig .tc := ⟨.hbm, 124, rfl⟩
abbrev main_while0b_v100 : Ref sig .tc := ⟨.hbm, 125, rfl⟩
abbrev main_while0b_v101 : Ref sig .tc := ⟨.hbm, 126, rfl⟩
abbrev main_while0b_cst_36 : Ref sig .tc := ⟨.hbm, 127, rfl⟩
abbrev main_while0b_v102 : Ref sig .tc := ⟨.hbm, 128, rfl⟩
abbrev main_while0b_v103 : Ref sig .tc := ⟨.hbm, 129, rfl⟩
abbrev main_while0b_cst_37 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_v107 : Ref sig .tc := ⟨.hbm, 134, rfl⟩
abbrev main_while0b_v108 : Ref sig .tc := ⟨.hbm, 135, rfl⟩
abbrev main_while0b_v109 : Ref sig .tc := ⟨.hbm, 136, rfl⟩
abbrev main_while0b_cst_38 : Ref sig .tc := ⟨.hbm, 137, rfl⟩
abbrev main_while0b_v110 : Ref sig .tc := ⟨.hbm, 138, rfl⟩
abbrev main_while0b_v111 : Ref sig .tc := ⟨.hbm, 139, rfl⟩
abbrev main_while0b_v112 : Ref sig .tc := ⟨.hbm, 140, rfl⟩
abbrev main_while0b_cst_39 : Ref sig .tc := ⟨.hbm, 141, rfl⟩
abbrev main_while0b_v113 : Ref sig .tc := ⟨.hbm, 142, rfl⟩
abbrev main_while0b_v114 : Ref sig .tc := ⟨.hbm, 143, rfl⟩
abbrev main_while0b_cst_40 : Ref sig .tc := ⟨.hbm, 144, rfl⟩
abbrev main_while0b_v115 : Ref sig .tc := ⟨.hbm, 145, rfl⟩
abbrev main_while0b_v116 : Ref sig .tc := ⟨.hbm, 146, rfl⟩
abbrev main_while0b_cst_41 : Ref sig .tc := ⟨.hbm, 147, rfl⟩
abbrev main_while0b_v117 : Ref sig .tc := ⟨.hbm, 148, rfl⟩
abbrev main_while0b_v118 : Ref sig .tc := ⟨.hbm, 149, rfl⟩
abbrev main_while0b_cst_42 : Ref sig .tc := ⟨.hbm, 150, rfl⟩
abbrev main_while0b_v119 : Ref sig .tc := ⟨.hbm, 151, rfl⟩
abbrev main_while0b_v120 : Ref sig .tc := ⟨.hbm, 152, rfl⟩
abbrev main_while0b_cst_43 : Ref sig .tc := ⟨.hbm, 153, rfl⟩
abbrev main_while0b_v121 : Ref sig .tc := ⟨.hbm, 154, rfl⟩
abbrev main_while0b_v122 : Ref sig .tc := ⟨.hbm, 155, rfl⟩
abbrev main_while0b_v123 : Ref sig .tc := ⟨.hbm, 156, rfl⟩
abbrev main_while0b_v124 : Ref sig .tc := ⟨.hbm, 157, rfl⟩
abbrev main_while0b_v125 : Ref sig .tc := ⟨.hbm, 158, rfl⟩
abbrev main_while0b_v126 : Ref sig .tc := ⟨.hbm, 159, rfl⟩
abbrev main_while0b_cst_44 : Ref sig .tc := ⟨.hbm, 160, rfl⟩
abbrev main_while0b_v127 : Ref sig .tc := ⟨.hbm, 161, rfl⟩
abbrev main_while0b_v128 : Ref sig .tc := ⟨.hbm, 162, rfl⟩
abbrev main_while0b_v129 : Ref sig .tc := ⟨.hbm, 163, rfl⟩
abbrev main_while0b_cst_45 : Ref sig .tc := ⟨.hbm, 164, rfl⟩
abbrev main_while0b_v130 : Ref sig .tc := ⟨.hbm, 165, rfl⟩
abbrev main_while0b_v131 : Ref sig .tc := ⟨.hbm, 166, rfl⟩
abbrev main_while0b_v132 : Ref sig .tc := ⟨.hbm, 167, rfl⟩
abbrev main_while0b_v133 : Ref sig .tc := ⟨.hbm, 168, rfl⟩
abbrev main_while0b_v134 : Ref sig .tc := ⟨.hbm, 169, rfl⟩
abbrev main_while0b_v135 : Ref sig .tc := ⟨.hbm, 170, rfl⟩
abbrev main_while0b_v136 : Ref sig .tc := ⟨.hbm, 171, rfl⟩
abbrev main_while0b_v137 : Ref sig .tc := ⟨.hbm, 172, rfl⟩
abbrev main_while0b_v138 : Ref sig .tc := ⟨.hbm, 173, rfl⟩
abbrev main_while0b_call8_v0 : Ref sig .tc := ⟨.hbm, 174, rfl⟩
abbrev main_while0b_call8_c : Ref sig .tc := ⟨.hbm, 175, rfl⟩
abbrev main_while0b_call8_c_0 : Ref sig .tc := ⟨.hbm, 176, rfl⟩
abbrev main_while0b_v139 : Ref sig .tc := ⟨.hbm, 177, rfl⟩
abbrev main_while0b_c_46 : Ref sig .tc := ⟨.hbm, 178, rfl⟩
abbrev main_while0b_v140 : Ref sig .tc := ⟨.hbm, 179, rfl⟩
abbrev main_v23 : Ref sig .tc := ⟨.hbm, 180, rfl⟩
abbrev main_v24 : Ref sig .tc := ⟨.hbm, 181, rfl⟩
abbrev main_v25 : Ref sig .tc := ⟨.hbm, 182, rfl⟩
abbrev main_c_8 : Ref sig .tc := ⟨.hbm, 183, rfl⟩
abbrev main_v26 : Ref sig .tc := ⟨.hbm, 184, rfl⟩
abbrev main_v27 : Ref sig .tc := ⟨.hbm, 185, rfl⟩
abbrev main_v28 : Ref sig .tc := ⟨.hbm, 186, rfl⟩
abbrev main_c_9 : Ref sig .tc := ⟨.hbm, 187, rfl⟩
abbrev main_v29 : Ref sig .tc := ⟨.hbm, 188, rfl⟩
abbrev main_v30 : Ref sig .tc := ⟨.hbm, 189, rfl⟩
abbrev main_v31 : Ref sig .tc := ⟨.hbm, 190, rfl⟩
abbrev main_c_10 : Ref sig .tc := ⟨.hbm, 191, rfl⟩
abbrev main_v32 : Ref sig .tc := ⟨.hbm, 192, rfl⟩
abbrev main_v33 : Ref sig .tc := ⟨.hbm, 193, rfl⟩
abbrev main_v34 : Ref sig .tc := ⟨.hbm, 194, rfl⟩
abbrev main_v35 : Ref sig .tc := ⟨.hbm, 195, rfl⟩
abbrev main_v36 : Ref sig .tc := ⟨.hbm, 196, rfl⟩
abbrev main_v37 : Ref sig .tc := ⟨.hbm, 197, rfl⟩
abbrev main_v38 : Ref sig .tc := ⟨.hbm, 198, rfl⟩
abbrev main_v39 : Ref sig .tc := ⟨.hbm, 199, rfl⟩
abbrev main_v40 : Ref sig .tc := ⟨.hbm, 200, rfl⟩
abbrev main_v41 : Ref sig .tc := ⟨.hbm, 201, rfl⟩
abbrev main_cst_11 : Ref sig .tc := ⟨.hbm, 202, rfl⟩
abbrev main_v42 : Ref sig .tc := ⟨.hbm, 203, rfl⟩
abbrev main_v43 : Ref sig .tc := ⟨.hbm, 204, rfl⟩
abbrev main_cst_12 : Ref sig .tc := ⟨.hbm, 205, rfl⟩
abbrev main_v44 : Ref sig .tc := ⟨.hbm, 206, rfl⟩
abbrev main_v45 : Ref sig .tc := ⟨.hbm, 207, rfl⟩
abbrev main_cst_13 : Ref sig .tc := ⟨.hbm, 208, rfl⟩
abbrev main_v46 : Ref sig .tc := ⟨.hbm, 209, rfl⟩
abbrev main_cst_14 : Ref sig .tc := ⟨.hbm, 210, rfl⟩
abbrev main_v47 : Ref sig .tc := ⟨.hbm, 211, rfl⟩
abbrev main_v48 : Ref sig .tc := ⟨.hbm, 212, rfl⟩
abbrev main_v49 : Ref sig .tc := ⟨.hbm, 213, rfl⟩
abbrev main_v50 : Ref sig .tc := ⟨.hbm, 214, rfl⟩
abbrev main_v51 : Ref sig .tc := ⟨.hbm, 215, rfl⟩
abbrev main_cst_15 : Ref sig .tc := ⟨.hbm, 216, rfl⟩
abbrev main_v52 : Ref sig .tc := ⟨.hbm, 217, rfl⟩
abbrev main_v53 : Ref sig .tc := ⟨.hbm, 218, rfl⟩
abbrev main_v54 : Ref sig .tc := ⟨.hbm, 219, rfl⟩
abbrev main_cst_16 : Ref sig .tc := ⟨.hbm, 220, rfl⟩
abbrev main_v55 : Ref sig .tc := ⟨.hbm, 221, rfl⟩

abbrev nD : Nat := 1
abbrev τ : Topo := Topo.v7x

variable {F : FTy → Type} [FloatOps F]

abbrev main_while0_count : Scf.Loop 32 := ⟨0#32, 2045#32, 1#32⟩
-- ==== Proof.Frames.lean ====
/- The frames of the three programs and the named constant of the idealized kernel. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The reference declares no semaphore, so what its run leaves has every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems rfl r.2⟩) (Cert.ReferenceIdeal.Value.run m g)

/-- The mask, −1e30 as printed, is read as `⊥`. -/
theorem mask_named : IdealRules.named_const.Statement Cert.KernelIdeal.κ "mask" .f32 0xF149F2CA#32 ⊥ :=
  IdealRules.named_const.statement _ _ _ _ _ rfl

end Cert.Proof

end
-- ==== Proof.LogDomain.lean ====
/- Arithmetic in the log domain over the extended reals: a nonnegative weight `w` is carried as its
   logarithm, `⊥` where `w = 0`. -/
module

public import Idealize.ShloMosaic.PureOps.Ideal
public import Mathlib.Analysis.SpecialFunctions.Log.Basic
public import Mathlib.Tactic.FieldSimp
public import Mathlib.Tactic.Ring
public import Mathlib.Tactic.Linarith
public import Mathlib.Tactic.Positivity

@[expose] public section

noncomputable section

namespace Cert.Soft

open Idealize.ShloMosaic

/-- The logarithm of a weight. -/
def L (w : ℝ) : EReal := Ideal.log (w : EReal)

theorem log_real (w : ℝ) : Ideal.log (w : EReal) = L w := rfl

theorem L_of_pos {w : ℝ} (h : 0 < w) : L w = (Real.log w : EReal) := by
  unfold L
  rw [Ideal.log_coe, if_neg (not_le.mpr h)]

theorem L_zero : L 0 = ⊥ := by
  unfold L
  rw [Ideal.log_coe, if_pos le_rfl]

theorem L_one : L 1 = 0 := by
  rw [L_of_pos one_pos, Real.log_one, EReal.coe_zero]

theorem exp_L {w : ℝ} (h : 0 ≤ w) : Ideal.exp (L w) = (w : EReal) := by
  rcases h.eq_or_lt with rfl | h
  · rw [L_zero, Ideal.exp_bot, EReal.coe_zero]
  · rw [L_of_pos h, Ideal.exp_coe, Real.exp_log h]

theorem L_add {w v : ℝ} (hw : 0 ≤ w) (hv : 0 ≤ v) : L w + L v = L (w * v) := by
  rcases hw.eq_or_lt with rfl | hw
  · rw [zero_mul, L_zero, EReal.bot_add]
  rcases hv.eq_or_lt with rfl | hv
  · rw [mul_zero, L_zero, EReal.add_bot]
  rw [L_of_pos hw, L_of_pos hv, L_of_pos (mul_pos hw hv), Real.log_mul hw.ne' hv.ne', EReal.coe_add]

theorem L_sub {w v : ℝ} (hw : 0 ≤ w) (hv : 0 < v) : L w - L v = L (w / v) := by
  rcases hw.eq_or_lt with rfl | hw
  · rw [zero_div, L_zero, EReal.bot_sub]
  rw [L_of_pos hw, L_of_pos hv, L_of_pos (div_pos hw hv), Real.log_div hw.ne' hv.ne', EReal.coe_sub]

theorem exp_sub {w v : ℝ} (hw : 0 ≤ w) (hv : 0 < v) : Ideal.exp (L w - L v) = ((w / v : ℝ) : EReal) := by
  rw [L_sub hw hv, exp_L (div_nonneg hw hv.le)]

theorem L_le {w v : ℝ} (hw : 0 ≤ w) (hv : 0 ≤ v) : L w ≤ L v ↔ w ≤ v := by
  rcases hw.eq_or_lt with rfl | hw
  · rw [L_zero]; exact ⟨fun _ => hv, fun _ => bot_le⟩
  rcases hv.eq_or_lt with rfl | hv
  · rw [L_zero, L_of_pos hw]
    exact ⟨fun h => absurd (le_bot_iff.mp h) (EReal.coe_ne_bot _), fun h => absurd h (not_le.mpr hw)⟩
  rw [L_of_pos hw, L_of_pos hv, EReal.coe_le_coe_iff, Real.log_le_log_iff hw hv]

theorem L_max {w v : ℝ} (hw : 0 ≤ w) (hv : 0 ≤ v) : max (L w) (L v) = L (max w v) := by
  rcases le_total w v with h | h
  · rw [max_eq_right h, max_eq_right ((L_le hw hv).mpr h)]
  · rw [max_eq_left h, max_eq_left ((L_le hv hw).mpr h)]

/-- The weight of a score. -/
def weight (x : EReal) : ℝ := (Ideal.exp x).toReal

theorem weight_nonneg (x : EReal) : 0 ≤ weight x := by
  unfold weight
  induction x with
  | bot => rw [Ideal.exp_bot]; simp
  | top => rw [Ideal.exp_top]; simp
  | coe r => rw [Ideal.exp_coe, EReal.toReal_coe]; exact (Real.exp_pos r).le

/-- A score other than `⊤` is the logarithm of its weight. -/
theorem L_weight {x : EReal} (h : x < ⊤) : L (weight x) = x := by
  unfold weight
  induction x with
  | bot => rw [Ideal.exp_bot, EReal.toReal_zero, L_zero]
  | top => exact absurd h (lt_irrefl _)
  | coe r => rw [Ideal.exp_coe, EReal.toReal_coe, L_of_pos (Real.exp_pos r), Real.log_exp]

theorem weight_bot : weight ⊥ = 0 := by
  unfold weight
  rw [Ideal.exp_bot, EReal.toReal_zero]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The logarithm of a sum of weights, taken relative to any real `g`. -/
theorem logsumexp {ι : Type} (s : Finset ι) (w : ι → ℝ) (hw : ∀ i, 0 ≤ w i) (g : ℝ) :
    Ideal.log (∑ i ∈ s, Ideal.exp (L (w i) - (g : EReal))) + (g : EReal) = L (∑ i ∈ s, w i) := by
  have hg : (g : EReal) = L (Real.exp g) := by rw [L_of_pos (Real.exp_pos g), Real.log_exp]
  rw [hg]
  have h : ∀ i, Ideal.exp (L (w i) - L (Real.exp g)) = ((w i / Real.exp g : ℝ) : EReal) := fun i =>
    exp_sub (hw i) (Real.exp_pos g)
  simp only [h]
  rw [coe_sum, log_real, L_add (Finset.sum_nonneg fun i _ => div_nonneg (hw i) (Real.exp_pos g).le) (Real.exp_pos g).le,
    ← Finset.sum_div, div_mul_cancel₀ _ (Real.exp_pos g).ne']

/-- The weights of opening and of extending a gap. -/
def Co : ℝ := Real.exp (-11)
def Ce : ℝ := Real.exp (-1)

theorem Co_pos : 0 < Co := Real.exp_pos _
theorem Ce_pos : 0 < Ce := Real.exp_pos _

theorem bits_zero : Ideal.ofBits .f32 0x00000000#32 = 0 := by
  simp [Ideal.ofBits, Ideal.ieee, -EReal.coe_mul]

theorem bits_one : Ideal.ofBits .f32 0x3F800000#32 = ((1 : ℝ) : EReal) := by
  simp [Ideal.ofBits, Ideal.ieee, -EReal.coe_mul]; norm_num

theorem bits_open : Ideal.ofBits .f32 0xC1300000#32 = ((-11 : ℝ) : EReal) := by
  simp [Ideal.ofBits, Ideal.ieee, -EReal.coe_mul]; norm_num

theorem bits_extend : Ideal.ofBits .f32 0xBF800000#32 = ((-1 : ℝ) : EReal) := by
  simp [Ideal.ofBits, Ideal.ieee, -EReal.coe_mul]; norm_num

theorem bits_low : Ideal.ofBits .f32 0xFF800000#32 = ⊥ := by
  simp [Ideal.ofBits, Ideal.ieee, -EReal.coe_mul]

theorem bits_high : Ideal.ofBits .f32 0x7F800000#32 = ⊤ := by
  simp [Ideal.ofBits, Ideal.ieee, -EReal.coe_mul]

theorem exp_open : Ideal.exp (Ideal.ofBits .f32 0xC1300000#32) = (Co : EReal) := by
  rw [bits_open, Ideal.exp_coe]; rfl

theorem exp_extend : Ideal.exp (Ideal.ofBits .f32 0xBF800000#32) = (Ce : EReal) := by
  rw [bits_extend, Ideal.exp_coe]; rfl

theorem L_open : ((-11 : ℝ) : EReal) = L Co := by
  rw [L_of_pos Co_pos, Co, Real.log_exp]

theorem L_extend : ((-1 : ℝ) : EReal) = L Ce := by
  rw [L_of_pos Ce_pos, Ce, Real.log_exp]

/-! ## One cell, as the kernel computes it -/

section Cell

variable {A R D Z M σ : ℝ} (hA : 0 ≤ A) (hR : 0 ≤ R) (hD : 0 ≤ D) (hZ : 0 ≤ Z) (hM : 0 ≤ M) (hσ : 0 ≤ σ)

/-- The largest of the three weights and 1. -/
def big (A R D : ℝ) : ℝ := max (max A R) (max D 1)

theorem big_pos : 0 < big A R D := lt_of_lt_of_le one_pos ((le_max_right D 1).trans (le_max_right _ _))

include hA hR hD

theorem cell_q : max (max (L A) (L R)) (max (L D) 0) = L (big A R D) := by
  rw [← L_one, L_max hA hR, L_max hD zero_le_one, L_max (le_max_of_le_left hA) (le_max_of_le_left hD)]
  rfl

theorem cell_h : L (big A R D) + Ideal.log (((A / big A R D : ℝ) : EReal) + ((R / big A R D : ℝ) : EReal) + ((D / big A R D : ℝ) : EReal)
      + ((1 / big A R D : ℝ) : EReal)) = L (1 + (A + R + D)) := by
  have hQ := big_pos (A := A) (R := R) (D := D)
  rw [← EReal.coe_add, ← EReal.coe_add, ← EReal.coe_add, log_real, L_add hQ.le (by positivity)]
  congr 1
  field_simp
  ring

theorem cell_r : L (big A R D) + Ideal.log (((A / big A R D : ℝ) : EReal) * (Co : EReal) + ((R / big A R D : ℝ) : EReal) * (Ce : EReal))
      = L (Co * A + Ce * R) := by
  have hQ := big_pos (A := A) (R := R) (D := D)
  have := Co_pos
  have := Ce_pos
  rw [← EReal.coe_mul, ← EReal.coe_mul, ← EReal.coe_add, log_real, L_add hQ.le (by positivity)]
  congr 1
  field_simp

theorem cell_f : L (big A R D) + Ideal.log ((((A / big A R D : ℝ) : EReal) + ((R / big A R D : ℝ) : EReal)) * (Co : EReal)
      + ((D / big A R D : ℝ) : EReal) * (Ce : EReal)) = L (Co * (A + R) + Ce * D) := by
  have hQ := big_pos (A := A) (R := R) (D := D)
  have := Co_pos
  have := Ce_pos
  rw [← EReal.coe_add, ← EReal.coe_mul, ← EReal.coe_mul, ← EReal.coe_add, log_real, L_add hQ.le (by positivity)]
  congr 1
  field_simp

include hZ hM hσ

/-- The running maximum and the running sum: their product grows by the cell's contribution. -/
theorem cell_s (E : EReal) (hE : E = ((A / big A R D : ℝ) : EReal) + ((R / big A R D : ℝ) : EReal) + ((D / big A R D : ℝ) : EReal)) :
    ∃ M' σ' : ℝ, 0 ≤ M' ∧ 0 ≤ σ' ∧ max (L M) (L (big A R D) + L Z) = L M'
      ∧ (if L (big A R D) + L Z ≤ L M then (σ : EReal) + E * Ideal.exp (L (big A R D) + L Z - L M)
          else (σ : EReal) * Ideal.exp (L M - (L (big A R D) + L Z)) + E) = (σ' : EReal)
      ∧ σ' * M' = σ * M + (A + R + D) * Z := by
  have hQ := big_pos (A := A) (R := R) (D := D)
  have hQZ : 0 ≤ big A R D * Z := mul_nonneg hQ.le hZ
  have hE' : E = (((A + R + D) / big A R D : ℝ) : EReal) := by
    rw [hE, ← EReal.coe_add, ← EReal.coe_add, add_div, add_div]
  rw [L_add hQ.le hZ, hE', L_max hM hQZ]
  by_cases h : big A R D * Z ≤ M
  · rw [if_pos ((L_le hQZ hM).mpr h), max_eq_left h]
    rcases hM.eq_or_lt with rfl | hM
    · have hz : Z = 0 := le_antisymm (by
        by_contra hc
        exact absurd h (not_le.mpr (mul_pos hQ (not_le.mp hc)))) hZ
      refine ⟨0, σ, le_rfl, hσ, rfl, ?_, by rw [hz]; ring⟩
      rw [hz, mul_zero, L_zero]
      simp
    · refine ⟨M, σ + (A + R + D) / big A R D * (big A R D * Z / M), hM.le, by positivity, rfl, ?_, by field_simp⟩
      rw [exp_sub hQZ hM, ← EReal.coe_mul, ← EReal.coe_add]
  · rw [if_neg fun h' => h ((L_le hQZ hM).mp h'), max_eq_right (not_le.mp h).le]
    have hp : 0 < big A R D * Z := lt_of_le_of_lt hM (not_le.mp h)
    have hZ' : 0 < Z := by
      rcases hZ.eq_or_lt with rfl | hz
      · exact absurd hp (by simp)
      · exact hz
    refine ⟨big A R D * Z, σ * (M / (big A R D * Z)) + (A + R + D) / big A R D, hQZ, by positivity, rfl, ?_, by field_simp⟩
    rw [exp_sub hM hp, ← EReal.coe_mul, ← EReal.coe_add]

end Cell

/-! ## The recurrence on weights -/

/-- The weights of one cell: of the paths that end in it aligned, in a gap to the right, in a gap down. -/
structure Cell where
  a : ℝ
  r : ℝ
  d : ℝ

namespace Cell

def zero : Cell := ⟨0, 0, 0⟩

def total (w : Cell) : ℝ := w.a + w.r + w.d

/-- What a gap to the right, and a gap down, may go on from. -/
def right (w : Cell) : ℝ := Co * w.a + Ce * w.r
def down (w : Cell) : ℝ := Co * (w.a + w.r) + Ce * w.d

def Nonneg (w : Cell) : Prop := 0 ≤ w.a ∧ 0 ≤ w.r ∧ 0 ≤ w.d

theorem zero_nonneg : zero.Nonneg := ⟨le_rfl, le_rfl, le_rfl⟩
theorem zero_total : zero.total = 0 := by simp [zero, total]
theorem zero_right : zero.right = 0 := by simp [zero, right]
theorem zero_down : zero.down = 0 := by simp [zero, down]

theorem Nonneg.total {w : Cell} (h : w.Nonneg) : 0 ≤ w.total := add_nonneg (add_nonneg h.1 h.2.1) h.2.2
theorem Nonneg.right {w : Cell} (h : w.Nonneg) : 0 ≤ w.right :=
  add_nonneg (mul_nonneg Co_pos.le h.1) (mul_nonneg Ce_pos.le h.2.1)
theorem Nonneg.down {w : Cell} (h : w.Nonneg) : 0 ≤ w.down :=
  add_nonneg (mul_nonneg Co_pos.le (add_nonneg h.1 h.2.1)) (mul_nonneg Ce_pos.le h.2.2)

end Cell

/-- The lane before, of a row of cells. -/
def before (u : ℕ → Cell) (k : ℕ) : Cell := if k = 0 then Cell.zero else u (k - 1)

/-- The cells of one anti-diagonal from the two before it; lane `k` is row `k` of the matrix. -/
def next (X : ℕ → ℝ) (P C : ℕ → Cell) (k : ℕ) : Cell where
  a := X k * (1 + (before P k).total)
  r := (C k).right
  d := (before C k).down

/-- The two anti-diagonals before step `t`. -/
def lanes (X : ℕ → ℕ → ℝ) : ℕ → (ℕ → Cell) × (ℕ → Cell)
  | 0 => (fun _ => Cell.zero, fun _ => Cell.zero)
  | t + 1 => ((lanes X t).2, next (X t) (lanes X t).1 (lanes X t).2)

/-- The cell of anti-diagonal `t`, row `k`. -/
def cell (X : ℕ → ℕ → ℝ) (t k : ℕ) : Cell := (lanes X (t + 1)).2 k

theorem cell_eq (X : ℕ → ℕ → ℝ) (t k : ℕ) : cell X t k = next (X t) (lanes X t).1 (lanes X t).2 k := rfl

theorem before_nonneg {u : ℕ → Cell} (h : ∀ k, (u k).Nonneg) (k : ℕ) : (before u k).Nonneg := by
  unfold before
  split
  · exact Cell.zero_nonneg
  · exact h _

theorem next_nonneg {X : ℕ → ℝ} {P C : ℕ → Cell} (hX : ∀ k, 0 ≤ X k) (hP : ∀ k, (P k).Nonneg) (hC : ∀ k, (C k).Nonneg) (k : ℕ) :
    (next X P C k).Nonneg :=
  ⟨mul_nonneg (hX k) (add_nonneg zero_le_one (before_nonneg hP k).total), (hC k).right, (before_nonneg hC k).down⟩

theorem lanes_nonneg {X : ℕ → ℕ → ℝ} (hX : ∀ t k, 0 ≤ X t k) (t : ℕ) :
    (∀ k, ((lanes X t).1 k).Nonneg) ∧ ∀ k, ((lanes X t).2 k).Nonneg := by
  induction t with
  | zero => exact ⟨fun _ => Cell.zero_nonneg, fun _ => Cell.zero_nonneg⟩
  | succ t ih => exact ⟨ih.2, next_nonneg (hX t) ih.1 ih.2⟩

theorem cell_nonneg {X : ℕ → ℕ → ℝ} (hX : ∀ t k, 0 ≤ X t k) (t k : ℕ) : (cell X t k).Nonneg := (lanes_nonneg hX (t + 1)).2 k

theorem before_zero {u : ℕ → Cell} {k : ℕ} (h : 0 < k → u (k - 1) = Cell.zero) : before u k = Cell.zero := by
  unfold before
  split
  · rfl
  · exact h (by omega)

/-- Below the first anti-diagonal that meets a row, the row's cells are zero. -/
theorem lanes_zero {X : ℕ → ℕ → ℝ} (hX : ∀ t k, t < k → X t k = 0) (t : ℕ) : ∀ k, t ≤ k → (lanes X t).2 k = Cell.zero := by
  induction t with
  | zero => intro k _; rfl
  | succ t ih =>
    intro k hk
    show next (X t) (lanes X t).1 (lanes X t).2 k = _
    unfold next
    rw [hX t k (by omega), ih k (by omega), before_zero fun _ => ih (k - 1) (by omega), zero_mul, Cell.zero_right, Cell.zero_down]
    rfl

theorem cell_zero {X : ℕ → ℕ → ℝ} (hX : ∀ t k, t < k → X t k = 0) {t k : ℕ} (h : t < k) : cell X t k = Cell.zero :=
  lanes_zero hX (t + 1) k h

end Cert.Soft

end
-- ==== Proof.Weights.lean ====
/- The weights that the score matrix gives to the cells, laid out by anti-diagonal and row. -/
module

public import proofs.«01_k».proof.Proof.LogDomain
public import Idealize.ShloMosaic.Lib.Pointwise

@[expose] public section

noncomputable section

namespace Cert.Soft

open Idealize.ShloMosaic

/-- A score matrix. -/
abbrev Scores : Type := (⟨2, ![1024, 1024]⟩ : Shape).Idx → EReal

/-- Its entry in row `p`, column `q`. -/
def entry (x : Scores) (p q : ℕ) : EReal := if h : p < 1024 ∧ q < 1024 then x (ix2 ⟨p, h.1⟩ ⟨q, h.2⟩) else ⊥

/-- Row `k` meets anti-diagonal `t` within the part that is aligned, one row and column smaller. -/
def Inside (t k : ℕ) : Prop := k < 1023 ∧ k ≤ t ∧ t - k < 1023

instance (t k : ℕ) : Decidable (Inside t k) := inferInstanceAs (Decidable (_ ∧ _ ∧ _))

/-- The weight of the cell on anti-diagonal `t`, row `k`. -/
def Xw (x : Scores) (t k : ℕ) : ℝ := if Inside t k then weight (entry x k (t - k)) else 0

/-- The weight of what follows the cell, one row and one column on. -/
def Zw (x : Scores) (t k : ℕ) : ℝ := if Inside t k then weight (entry x (k + 1) (t - k + 1)) else 0

theorem Xw_nonneg (x : Scores) (t k : ℕ) : 0 ≤ Xw x t k := by
  unfold Xw
  split
  · exact weight_nonneg _
  · exact le_rfl

theorem Zw_nonneg (x : Scores) (t k : ℕ) : 0 ≤ Zw x t k := by
  unfold Zw
  split
  · exact weight_nonneg _
  · exact le_rfl

theorem Xw_zero (x : Scores) (t k : ℕ) (h : t < k) : Xw x t k = 0 := if_neg fun h' => absurd h'.2.1 (not_le.mpr h)

/-- Every score is less than `⊤`. -/
def Bounded (x : Scores) : Prop := ∀ i, x i < ⊤

theorem L_entry {x : Scores} (hx : Bounded x) (p q : ℕ) : L (weight (entry x p q)) = entry x p q := by
  apply L_weight
  unfold entry
  split
  · exact hx _
  · exact bot_lt_top

theorem L_Xw {x : Scores} (hx : Bounded x) {t k : ℕ} (h : Inside t k) : L (Xw x t k) = entry x k (t - k) := by
  rw [Xw, if_pos h, L_entry hx]

theorem L_Xw_out {x : Scores} {t k : ℕ} (h : ¬Inside t k) : L (Xw x t k) = ⊥ := by
  rw [Xw, if_neg h, L_zero]

theorem L_Zw {x : Scores} (hx : Bounded x) {t k : ℕ} (h : Inside t k) : L (Zw x t k) = entry x (k + 1) (t - k + 1) := by
  rw [Zw, if_pos h, L_entry hx]

theorem L_Zw_out {x : Scores} {t k : ℕ} (h : ¬Inside t k) : L (Zw x t k) = ⊥ := by
  rw [Zw, if_neg h, L_zero]

/-- What the cell on anti-diagonal `t`, row `k` contributes. -/
def part (x : Scores) (t k : ℕ) : ℝ := (cell (Xw x) t k).total * Zw x t k

theorem part_nonneg (x : Scores) (t k : ℕ) : 0 ≤ part x t k := mul_nonneg (cell_nonneg (Xw_nonneg x) t k).total (Zw_nonneg x t k)

/-- All contributions, row by row. -/
def whole (x : Scores) : ℝ := ∑ p : Fin 1023, ∑ q : Fin 1023, part x (p.val + q.val) p.val

/-- One row's contributions, over all anti-diagonals. -/
theorem row_sum (x : Scores) (k : ℕ) (hk : k < 1023) :
    ∑ t ∈ Finset.range 2048, part x t k = ∑ q : Fin 1023, part x (k + q.val) k := by
  rw [Fin.sum_univ_eq_sum_range (fun q => part x (k + q) k) 1023]
  have h : Finset.image (fun q => k + q) (Finset.range 1023) ⊆ Finset.range 2048 := fun t ht => by
    obtain ⟨q, hq, rfl⟩ := Finset.mem_image.mp ht
    rw [Finset.mem_range] at hq ⊢
    omega
  rw [← Finset.sum_subset h fun t _ ht => by
      have : ¬Inside t k := fun hi => ht (Finset.mem_image.mpr ⟨t - k, Finset.mem_range.mpr hi.2.2, by
        have := hi.2.1; show k + (t - k) = t; omega⟩)
      rw [part, Zw, if_neg this, mul_zero]]
  rw [Finset.sum_image fun a _ b _ h => by have : k + a = k + b := h; omega]

/-- All contributions, lane by lane and step by step. -/
theorem whole_eq (x : Scores) : ∑ k : Fin 1024, ∑ t ∈ Finset.range 2048, part x t k.val = whole x := by
  rw [Fin.sum_univ_castSucc]
  have hl : ∑ t ∈ Finset.range 2048, part x t (Fin.last 1023).val = 0 := Finset.sum_eq_zero fun t _ => by
    have : ¬Inside t (Fin.last 1023).val := fun h => absurd h.1 (lt_irrefl 1023)
    rw [part, Zw, if_neg this, mul_zero]
  rw [hl, add_zero]
  exact Finset.sum_congr rfl fun k _ => row_sum x k.val k.isLt

end Cert.Soft

end
-- ==== Proof.Given.lean ====
/- What the precondition says of the matrix: no entry is `+∞`. -/
module

public import proofs.«01_k».proof.Pre_no_plus_infinity
public import proofs.«01_k».proof.Proof.Weights
public import Idealize.ShloMosaic.Lib.ReduceAll
public import Idealize.ShloMosaic.Lib.Pointwise.Select

@[expose] public section

noncomputable section

namespace Cert.Proof

open Idealize.ShloMosaic Cert.Soft Cert.Pre_no_plus_infinity

/-- A matrix of which the precondition holds has no entry `+∞`. -/
theorem bounded_of_pre [Cert.Pre_no_plus_infinity.Facts] (x : FVec Ideal S1024x1024 .f32)
    (h : Cert.Pre_no_plus_infinity.fn (F := Ideal) x = fun _ => 1#1) : Bounded x := by
  intro i
  have e : FloatOps.cmpf (F := Ideal) .olt (x i) (Ideal.ofBits .f32 0x7F800000#32) = 1#1 :=
    Host.reduce_andi_all _ _ _ _ (fun a => a.elim0) (congrFun h fun a => a.elim0) i
  rw [bits_high] at e
  exact (Ideal.cmp_olt_eq_one _ _).1 e

end Cert.Proof

end
-- ==== Proof.KStep.lean ====
/- One step of the kernel's recurrence on vectors of lanes, and what the body of a grid point leaves:
   sixteen such steps, from the six carried rows and the sixteen rows of each input block. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F] [Named F]

/-- The six rows the kernel carries from step to step. -/
structure St (F : FTy → Type) where
  h2 : FVec F S1024 .f32
  h1 : FVec F S1024 .f32
  r1 : FVec F S1024 .f32
  f1 : FVec F S1024 .f32
  m : FVec F S1024 .f32
  s : FVec F S1024 .f32

/-- A row shifted by one lane, the first lane filled. -/
def shiftRow (u : FVec F S1024 .f32) (fill : F .f32) : FVec F S1024 .f32 :=
  concatenate S1024 0 [⟨S1, broadcast S1 fill⟩, ⟨S1023, extractStridedSlice S1023 ![0] u slices_S1024_o0_S1023⟩]
    concatenates_S1_S1023_S1024_d0

def zer : F .f32 := Scalar.ofBits .f32 0x00000000#32
def msk : F .f32 := Named.named κ "mask" (φ := .f32) 0xF149F2CA#32
def cgo : FVec F S1024 .f32 := exp (broadcast S1024 (Scalar.ofBits .f32 0xC1300000#32))
def cge : FVec F S1024 .f32 := exp (broadcast S1024 (Scalar.ofBits .f32 0xBF800000#32))

def alnV (y : FVec F S1x1x1024 .f32) (S : St F) : FVec F S1024 .f32 :=
  addf (shapeCast S1024 y shapeCasts_S1x1x1024_S1024) (shiftRow S.h2 zer)
def dwnV (S : St F) : FVec F S1024 .f32 := shiftRow S.f1 msk
def qV (y : FVec F S1x1x1024 .f32) (S : St F) : FVec F S1024 .f32 :=
  maximumf (maximumf (alnV y S) S.r1) (maximumf (dwnV S) (broadcast S1024 zer))
def eaV (y : FVec F S1x1x1024 .f32) (S : St F) : FVec F S1024 .f32 := exp (subf (alnV y S) (qV y S))
def erV (y : FVec F S1x1x1024 .f32) (S : St F) : FVec F S1024 .f32 := exp (subf S.r1 (qV y S))
def edV (y : FVec F S1x1x1024 .f32) (S : St F) : FVec F S1024 .f32 := exp (subf (dwnV S) (qV y S))
def e0V (y : FVec F S1x1x1024 .f32) (S : St F) : FVec F S1024 .f32 := exp (subf (broadcast S1024 zer) (qV y S))
def se3V (y : FVec F S1x1x1024 .f32) (S : St F) : FVec F S1024 .f32 := addf (addf (eaV y S) (erV y S)) (edV y S)
def qzV (y z : FVec F S1x1x1024 .f32) (S : St F) : FVec F S1024 .f32 :=
  addf (qV y S) (shapeCast S1024 z shapeCasts_S1x1x1024_S1024)
def keepV (y z : FVec F S1x1x1024 .f32) (S : St F) : IVec S1024 1 := cmpf .oge S.m (qzV y z S)
def eV (y z : FVec F S1x1x1024 .f32) (S : St F) : FVec F S1024 .f32 :=
  exp (select (keepV y z S) (subf (qzV y z S) S.m) (subf S.m (qzV y z S)))

/-- One step of the recurrence, all lanes at once. -/
def step (y z : FVec F S1x1x1024 .f32) (S : St F) : St F where
  h2 := S.h1
  h1 := addf (qV y S) (log (addf (se3V y S) (e0V y S)))
  r1 := addf (qV y S) (log (addf (mulf (eaV y S) cgo) (mulf (erV y S) cge)))
  f1 := addf (qV y S) (log (addf (mulf (addf (eaV y S) (erV y S)) cgo) (mulf (edV y S) cge)))
  m := maximumf S.m (qzV y z S)
  s := select (keepV y z S) (addf S.s (mulf (se3V y S) (eV y z S))) (addf (mulf S.s (eV y z S)) (se3V y S))

/-- Sixteen steps, over the rows `Y u`, `Z u` of the two blocks. -/
def steps (Y Z : Fin 16 → FVec F S1x1x1024 .f32) (S : St F) : St F :=
  step (Y 15) (Z 15) <| step (Y 14) (Z 14) <| step (Y 13) (Z 13) <| step (Y 12) (Z 12) <|
  step (Y 11) (Z 11) <| step (Y 10) (Z 10) <| step (Y 9) (Z 9) <| step (Y 8) (Z 8) <|
  step (Y 7) (Z 7) <| step (Y 6) (Z 6) <| step (Y 5) (Z 5) <| step (Y 4) (Z 4) <|
  step (Y 3) (Z 3) <| step (Y 2) (Z 2) <| step (Y 1) (Z 1) <| step (Y 0) (Z 0) S

theorem row_inb (u : Fin 16) : ∀ a, (![u.val, 0, 0] : Fin 3 → Nat) a + S1x1x1024.size a ≤ S16x1x1024.size a := by
  decide +revert

/-- Row `u` of a whole staging block, as the body loads it. -/
def rowOf {sig' : RefSig} (a : Memref sig' .tc .vmem S16x1x1024 .f32) (h : a.IsWhole) (x : Vec F S16x1x1024 .f32) (u : Fin 16) :
    FVec F S1x1x1024 .f32 :=
  View.readAt (Elt F) a.view (Rect.unit (s := S16x1x1024) ![u.val, 0, 0] S1x1x1024.size (row_inb u)).toLoadRect (h.unread x)

/-- A whole carried row, as the body loads it. -/
def carryOf {sig' : RefSig} (a : Memref sig' .tc .vmem S1x1024 .f32) (h : a.IsWhole) (x : Vec F S1x1024 .f32) : FVec F S1024 .f32 :=
  shapeCast S1024 (View.readAt (Elt F) a.view (Rect.unit ![0, 0] S1x1024.size inb_S1x1024_S1x1024_0_0).toLoadRect (h.unread x))
    shapeCasts_S1x1024_S1024

section Body

variable (c : Dev nD) (i : grid0.Coords) (arg1 : Memref sig .tc .vmem S16x1x1024 .f32) (harg1 : arg1.IsWhole) (arg2 : Memref sig .tc .vmem S16x1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
    (x0 x1 : Vec F S16x1x1024 .f32) (xs0 xs1 xs2 xs3 xs4 xs5 : Vec F S1x1024 .f32)

/-- The carried rows a point starts from, as loaded. -/
def start : St F :=
  ⟨carryOf arg4 harg4 xs0, carryOf arg5 harg5 xs1, carryOf arg6 harg6 xs2, carryOf arg7 harg7 xs3, carryOf arg8 harg8 xs4, carryOf arg9 harg9 xs5⟩

/-- What the body computes from them. -/
def finish : St F :=
  steps (rowOf arg1 harg1 x0) (rowOf arg2 harg2 x1) (start arg4 harg4 arg5 harg5 arg6 harg6 arg7 harg7 arg8 harg8 arg9 harg9 xs0 xs1 xs2 xs3 xs4 xs5)

/-- The whole-row rectangle of a carried buffer. -/
def rowR : Rect S1x1024 := Rect.unit ![0, 0] S1x1024.size inb_S1x1024_S1x1024_0_0

/-- A carried row as the body stores it: one piece over the whole buffer. -/
def pieceOf (u : FVec F S1024 .f32) : View.Piece (Elt F) S1x1024 .f32 := ⟨rowR, shapeCast S1x1024 u shapeCasts_S1024_S1x1024⟩

/-- A row stored before it is loaded again, as that load reads it. -/
def freshOf {sig' : RefSig} (a : Memref sig' .tc .vmem S1x1024 .f32) (u : Vec F S1x1024 .f32) : FVec F S1024 .f32 :=
  shapeCast S1024 (a.view.readCov [⟨rowR, u⟩] rowR.toLoadRect) shapeCasts_S1x1024_S1024

/-- The carried rows the first point starts from. -/
def start0 : St F :=
  ⟨freshOf arg4 k0_pay3, freshOf arg5 k0_pay4, freshOf arg6 k0_pay5, freshOf arg7 k0_pay6, freshOf arg8 k0_pay7, freshOf arg9 k0_pay8⟩

def finish0 : St F :=
  steps (rowOf arg1 harg1 x0) (rowOf arg2 harg2 x1) (start0 arg4 arg5 arg6 arg7 arg8 arg9)

section B
variable (hc0 : ¬cond0_0 i) (hc1 : ¬cond0_1 i)

theorem piecesB_0 : (kernelRun0_B c i arg1 harg1 arg2 harg2 arg3 harg3 arg4 harg4 arg5 harg5 arg6 harg6 arg7 harg7 arg8 harg8 arg9 harg9 hc0 hc1 x0 x1 xs0 xs1 xs2 xs3 xs4 xs5).2.1
    = [pieceOf (finish arg1 harg1 arg2 harg2 arg4 harg4 arg5 harg5 arg6 harg6 arg7 harg7 arg8 harg8 arg9 harg9 x0 x1 xs0 xs1 xs2 xs3 xs4 xs5).h2] := by
  sl_kernel_rfl

theorem piecesB_1 : (kernelRun0_B c i arg1 harg1 arg2 harg2 arg3 harg3 arg4 harg4 arg5 harg5 arg6 harg6 arg7 harg7 arg8 harg8 arg9 harg9 hc0 hc1 x0 x1 xs0 xs1 xs2 xs3 xs4 xs5).2.2.1
    = [pieceOf (finish arg1 harg1 arg2 harg2 arg4 harg4 arg5 harg5 arg6 harg6 arg7 harg7 arg8 harg8 arg9 harg9 x0 x1 xs0 xs1 xs2 xs3 xs4 xs5).h1] := by
  sl_kernel_rfl

theorem piecesB_2 : (kernelRun0_B c i arg1 harg1 arg2 harg2 arg3 harg3 arg4 harg4 arg5 harg5 arg6 harg6 arg7 harg7 arg8 harg8 arg9 harg9 hc0 hc1 x0 x1 xs0 xs1 xs2 xs3 xs4 xs5).2.2.2.1
    = [pieceOf (finish arg1 harg1 arg2 harg2 arg4 harg4 arg5 harg5 arg6 harg6 arg7 harg7 arg8 harg8 arg9 harg9 x0 x1 xs0 xs1 xs2 xs3 xs4 xs5).r1] := by
  sl_kernel_rfl

theorem piecesB_3 : (kernelRun0_B c i arg1 harg1 arg2 harg2 arg3 harg3 arg4 harg4 arg5 harg5 arg6 harg6 arg7 harg7 arg8 harg8 arg9 harg9 hc0 hc1 x0 x1 xs0 xs1 xs2 xs3 xs4 xs5).2.2.2.2.1
    = [pieceOf (finish arg1 harg1 arg2 harg2 arg4 harg4 arg5 harg5 arg6 harg6 arg7 harg7 arg8 harg8 arg9 harg9 x0 x1 xs0 xs1 xs2 xs3 xs4 xs5).f1] := by
  sl_kernel_rfl

theorem piecesB_4 : (kernelRun0_B c i arg1 harg1 arg2 harg2 arg3 harg3 arg4 harg4 arg5 harg5 arg6 harg6 arg7 harg7 arg8 harg8 arg9 harg9 hc0 hc1 x0 x1 xs0 xs1 xs2 xs3 xs4 xs5).2.2.2.2.2.1
    = [pieceOf (finish arg1 harg1 arg2 harg2 arg4 harg4 arg5 harg5 arg6 harg6 arg7 harg7 arg8 harg8 arg9 harg9 x0 x1 xs0 xs1 xs2 xs3 xs4 xs5).m] := by
  sl_kernel_rfl

theorem piecesB_5 : (kernelRun0_B c i arg1 harg1 arg2 harg2 arg3 harg3 arg4 harg4 arg5 harg5 arg6 harg6 arg7 harg7 arg8 harg8 arg9 harg9 hc0 hc1 x0 x1 xs0 xs1 xs2 xs3 xs4 xs5).2.2.2.2.2.2.1
    = [pieceOf (finish arg1 harg1 arg2 harg2 arg4 harg4 arg5 harg5 arg6 harg6 arg7 harg7 arg8 harg8 arg9 harg9 x0 x1 xs0 xs1 xs2 xs3 xs4 xs5).s] := by
  sl_kernel_rfl

end B

section C
variable (hc0 : ¬cond0_0 i) (hc1 : cond0_1 i)

theorem piecesC_0 : (kernelRun0_C c i arg1 harg1 arg2 harg2 arg3 harg3 arg4 harg4 arg5 harg5 arg6 harg6 arg7 harg7 arg8 harg8 arg9 harg9 hc0 hc1 x0 x1 xs0 xs1 xs2 xs3 xs4 xs5).2.1
    = [pieceOf (finish arg1 harg1 arg2 harg2 arg4 harg4 arg5 harg5 arg6 harg6 arg7 harg7 arg8 harg8 arg9 harg9 x0 x1 xs0 xs1 xs2 xs3 xs4 xs5).h2] := by
  sl_kernel_rfl

theorem piecesC_1 : (kernelRun0_C c i arg1 harg1 arg2 harg2 arg3 harg3 arg4 harg4 arg5 harg5 arg6 harg6 arg7 harg7 arg8 harg8 arg9 harg9 hc0 hc1 x0 x1 xs0 xs1 xs2 xs3 xs4 xs5).2.2.1
    = [pieceOf (finish arg1 harg1 arg2 harg2 arg4 harg4 arg5 harg5 arg6 harg6 arg7 harg7 arg8 harg8 arg9 harg9 x0 x1 xs0 xs1 xs2 xs3 xs4 xs5).h1] := by
  sl_kernel_rfl

theorem piecesC_2 : (kernelRun0_C c i arg1 harg1 arg2 harg2 arg3 harg3 arg4 harg4 arg5 harg5 arg6 harg6 arg7 harg7 arg8 harg8 arg9 harg9 hc0 hc1 x0 x1 xs0 xs1 xs2 xs3 xs4 xs5).2.2.2.1
    = [pieceOf (finish arg1 harg1 arg2 harg2 arg4 harg4 arg5 harg5 arg6 harg6 arg7 harg7 arg8 harg8 arg9 harg9 x0 x1 xs0 xs1 xs2 xs3 xs4 xs5).r1] := by
  sl_kernel_rfl

theorem piecesC_3 : (kernelRun0_C c i arg1 harg1 arg2 harg2 arg3 harg3 arg4 harg4 arg5 harg5 arg6 harg6 arg7 harg7 arg8 harg8 arg9 harg9 hc0 hc1 x0 x1 xs0 xs1 xs2 xs3 xs4 xs5).2.2.2.2.1
    = [pieceOf (finish arg1 harg1 arg2 harg2 arg4 harg4 arg5 harg5 arg6 harg6 arg7 harg7 arg8 harg8 arg9 harg9 x0 x1 xs0 xs1 xs2 xs3 xs4 xs5).f1] := by
  sl_kernel_rfl

theorem piecesC_4 : (kernelRun0_C c i arg1 harg1 arg2 harg2 arg3 harg3 arg4 harg4 arg5 harg5 arg6 harg6 arg7 harg7 arg8 harg8 arg9 harg9 hc0 hc1 x0 x1 xs0 xs1 xs2 xs3 xs4 xs5).2.2.2.2.2.1
    = [pieceOf (finish arg1 harg1 arg2 harg2 arg4 harg4 arg5 harg5 arg6 harg6 arg7 harg7 arg8 harg8 arg9 harg9 x0 x1 xs0 xs1 xs2 xs3 xs4 xs5).m] := by
  sl_kernel_rfl

theorem piecesC_5 : (kernelRun0_C c i arg1 harg1 arg2 harg2 arg3 harg3 arg4 harg4 arg5 harg5 arg6 harg6 arg7 harg7 arg8 harg8 arg9 harg9 hc0 hc1 x0 x1 xs0 xs1 xs2 xs3 xs4 xs5).2.2.2.2.2.2.1
    = [pieceOf (finish arg1 harg1 arg2 harg2 arg4 harg4 arg5 harg5 arg6 harg6 arg7 harg7 arg8 harg8 arg9 harg9 x0 x1 xs0 xs1 xs2 xs3 xs4 xs5).s] := by
  sl_kernel_rfl

theorem piecesC_out : (kernelRun0_C c i arg1 harg1 arg2 harg2 arg3 harg3 arg4 harg4 arg5 harg5 arg6 harg6 arg7 harg7 arg8 harg8 arg9 harg9 hc0 hc1 x0 x1 xs0 xs1 xs2 xs3 xs4 xs5).1
    = [⟨Rect.unit ![0, 0] S1x1.size inb_S1x1_S1x1_0_0, k0_pay2
        (arg8.view.readCov [pieceOf (finish arg1 harg1 arg2 harg2 arg4 harg4 arg5 harg5 arg6 harg6 arg7 harg7 arg8 harg8 arg9 harg9 x0 x1 xs0 xs1 xs2 xs3 xs4 xs5).m] rowR.toLoadRect)
        (arg9.view.readCov [pieceOf (finish arg1 harg1 arg2 harg2 arg4 harg4 arg5 harg5 arg6 harg6 arg7 harg7 arg8 harg8 arg9 harg9 x0 x1 xs0 xs1 xs2 xs3 xs4 xs5).s] rowR.toLoadRect)⟩] := by
  sl_kernel_rfl

end C

section A
variable (hc0 : cond0_0 i) (hc1 : ¬cond0_1 i)

theorem piecesA_0 : (kernelRun0_A c i arg1 harg1 arg2 harg2 arg3 harg3 arg4 harg4 arg5 harg5 arg6 harg6 arg7 harg7 arg8 harg8 arg9 harg9 hc0 hc1 x0 x1).2.1
    = [pieceOf (finish0 arg1 harg1 arg2 harg2 arg4 arg5 arg6 arg7 arg8 arg9 x0 x1).h2, ⟨rowR, k0_pay3⟩] := by
  sl_kernel_rfl

theorem piecesA_1 : (kernelRun0_A c i arg1 harg1 arg2 harg2 arg3 harg3 arg4 harg4 arg5 harg5 arg6 harg6 arg7 harg7 arg8 harg8 arg9 harg9 hc0 hc1 x0 x1).2.2.1
    = [pieceOf (finish0 arg1 harg1 arg2 harg2 arg4 arg5 arg6 arg7 arg8 arg9 x0 x1).h1, ⟨rowR, k0_pay4⟩] := by
  sl_kernel_rfl

theorem piecesA_2 : (kernelRun0_A c i arg1 harg1 arg2 harg2 arg3 harg3 arg4 harg4 arg5 harg5 arg6 harg6 arg7 harg7 arg8 harg8 arg9 harg9 hc0 hc1 x0 x1).2.2.2.1
    = [pieceOf (finish0 arg1 harg1 arg2 harg2 arg4 arg5 arg6 arg7 arg8 arg9 x0 x1).r1, ⟨rowR, k0_pay5⟩] := by
  sl_kernel_rfl

theorem piecesA_3 : (kernelRun0_A c i arg1 harg1 arg2 harg2 arg3 harg3 arg4 harg4 arg5 harg5 arg6 harg6 arg7 harg7 arg8 harg8 arg9 harg9 hc0 hc1 x0 x1).2.2.2.2.1
    = [pieceOf (finish0 arg1 harg1 arg2 harg2 arg4 arg5 arg6 arg7 arg8 arg9 x0 x1).f1, ⟨rowR, k0_pay6⟩] := by
  sl_kernel_rfl

theorem piecesA_4 : (kernelRun0_A c i arg1 harg1 arg2 harg2 arg3 harg3 arg4 harg4 arg5 harg5 arg6 harg6 arg7 harg7 arg8 harg8 arg9 harg9 hc0 hc1 x0 x1).2.2.2.2.2.1
    = [pieceOf (finish0 arg1 harg1 arg2 harg2 arg4 arg5 arg6 arg7 arg8 arg9 x0 x1).m, ⟨rowR, k0_pay7⟩] := by
  sl_kernel_rfl

theorem piecesA_5 : (kernelRun0_A c i arg1 harg1 arg2 harg2 arg3 harg3 arg4 harg4 arg5 harg5 arg6 harg6 arg7 harg7 arg8 harg8 arg9 harg9 hc0 hc1 x0 x1).2.2.2.2.2.2.1
    = [pieceOf (finish0 arg1 harg1 arg2 harg2 arg4 arg5 arg6 arg7 arg8 arg9 x0 x1).s, ⟨rowR, k0_pay8⟩] := by
  sl_kernel_rfl

end A

end Body

end Cert.KernelIdeal.Value

end
-- ==== Proof.KRun.lean ====
/- What the kernel's grid leaves: the carried rows after each point are sixteen steps from the ones
   before, and the result is the last point's reduction of the two running rows. -/
module

public import proofs.«01_k».proof.Proof.KStep
public import Idealize.ShloMosaic.Lib.Pipeline.Value
public import Idealize.ShloMosaic.Lib.Pipeline.ReadBack
public import Idealize.ShloMosaic.Lib.Tactic

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable {F : FTy → Type} [FloatOps F] [Named F]

/-- Row `u` of a block of sixteen rows. -/
def row (x : Vec F S16x1x1024 .f32) (u : Fin 16) : FVec F S1x1x1024 .f32 :=
  View.ld x (Rect.unit (s := S16x1x1024) ![u.val, 0, 0] S1x1x1024.size (row_inb u))

/-- A stored row, without its unit axis. -/
def flat (x : Vec F S1x1024 .f32) : FVec F S1024 .f32 := shapeCast S1024 x shapeCasts_S1x1024_S1024

def wide (u : FVec F S1024 .f32) : Vec F S1x1024 .f32 := shapeCast S1x1024 u shapeCasts_S1024_S1x1024

theorem flat_wide (u : FVec F S1024 .f32) : flat (wide u) = u := by
  unfold flat wide
  rw [shapeCast_shapeCast]

theorem hz : (![0, 0] : Fin 2 → Nat) = fun _ => 0 := funext fun a => by fin_cases a <;> rfl

theorem rowOf_eq {sig' : RefSig} (a : Memref sig' .tc .vmem S16x1x1024 .f32) (h : a.IsWhole) (x : Vec F S16x1x1024 .f32) :
    rowOf a h x = row x := by
  funext u
  unfold rowOf row
  rw [View.readAt_eq_ld, h.read_unread]

theorem carryOf_eq {sig' : RefSig} (a : Memref sig' .tc .vmem S1x1024 .f32) (h : a.IsWhole) (x : Vec F S1x1024 .f32) :
    carryOf a h x = flat x := by
  unfold carryOf flat
  rw [View.readAt_eq_ld, h.read_unread, View.ld_unit_zero (S := S1x1024) hz]

theorem freshOf_eq {sig' : RefSig} (a : Memref sig' .tc .vmem S1x1024 .f32) (u : Vec F S1x1024 .f32) :
    freshOf a u = flat u := by
  unfold freshOf flat rowR
  rw [View.readCov_unit_zero (S := S1x1024) _ hz]

theorem canon_pieceOf (u : FVec F S1024 .f32) (L : List (View.Piece (Elt F) S1x1024 .f32)) :
    View.canon (pieceOf u :: L) = wide u := by
  unfold pieceOf wide rowR
  rw [View.canon_cons_unit_zero (S := S1x1024) hz]

theorem readCov_pieceOf {sig' : RefSig} (a : Memref sig' .tc .vmem S1x1024 .f32) (u : FVec F S1024 .f32) :
    a.view.readCov [pieceOf u] rowR.toLoadRect = wide u := by
  unfold pieceOf wide rowR
  rw [View.readCov_unit_zero (S := S1x1024) _ hz]

/-- Sixteen steps from stored rows. -/
def point (x0 x1 : Vec F S16x1x1024 .f32) (xs0 xs1 xs2 xs3 xs4 xs5 : Vec F S1x1024 .f32) : St F :=
  steps (row x0) (row x1) ⟨flat xs0, flat xs1, flat xs2, flat xs3, flat xs4, flat xs5⟩

section Body

variable (c : Dev nD) (i : grid0.Coords) (arg1 : Memref sig .tc .vmem S16x1x1024 .f32) (harg1 : arg1.IsWhole) (arg2 : Memref sig .tc .vmem S16x1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
    (x0 x1 : Vec F S16x1x1024 .f32) (xs0 xs1 xs2 xs3 xs4 xs5 : Vec F S1x1024 .f32)

theorem finish_eq : finish arg1 harg1 arg2 harg2 arg4 harg4 arg5 harg5 arg6 harg6 arg7 harg7 arg8 harg8 arg9 harg9 x0 x1 xs0 xs1 xs2 xs3 xs4 xs5
    = point x0 x1 xs0 xs1 xs2 xs3 xs4 xs5 := by
  simp only [finish, start, point, carryOf_eq, rowOf_eq]

theorem finish0_eq : finish0 arg1 harg1 arg2 harg2 arg4 arg5 arg6 arg7 arg8 arg9 x0 x1
    = point x0 x1 k0_pay3 k0_pay4 k0_pay5 k0_pay6 k0_pay7 k0_pay8 := by
  simp only [finish0, start0, point, freshOf_eq, rowOf_eq]

theorem soutA_0 (hc0 : cond0_0 i) (hc1 : ¬cond0_1 i) : sout0_A_0 c i arg1 harg1 arg2 harg2 arg3 harg3 arg4 harg4 arg5 harg5 arg6 harg6 arg7 harg7 arg8 harg8 arg9 harg9 hc0 hc1 x0 x1 = wide (point x0 x1 k0_pay3 k0_pay4 k0_pay5 k0_pay6 k0_pay7 k0_pay8).h2 := by
  unfold sout0_A_0
  rw [View.read_writes_junk_eq_canon, piecesA_0, canon_pieceOf, finish0_eq]

theorem soutA_1 (hc0 : cond0_0 i) (hc1 : ¬cond0_1 i) : sout0_A_1 c i arg1 harg1 arg2 harg2 arg3 harg3 arg4 harg4 arg5 harg5 arg6 harg6 arg7 harg7 arg8 harg8 arg9 harg9 hc0 hc1 x0 x1 = wide (point x0 x1 k0_pay3 k0_pay4 k0_pay5 k0_pay6 k0_pay7 k0_pay8).h1 := by
  unfold sout0_A_1
  rw [View.read_writes_junk_eq_canon, piecesA_1, canon_pieceOf, finish0_eq]

theorem soutA_2 (hc0 : cond0_0 i) (hc1 : ¬cond0_1 i) : sout0_A_2 c i arg1 harg1 arg2 harg2 arg3 harg3 arg4 harg4 arg5 harg5 arg6 harg6 arg7 harg7 arg8 harg8 arg9 harg9 hc0 hc1 x0 x1 = wide (point x0 x1 k0_pay3 k0_pay4 k0_pay5 k0_pay6 k0_pay7 k0_pay8).r1 := by
  unfold sout0_A_2
  rw [View.read_writes_junk_eq_canon, piecesA_2, canon_pieceOf, finish0_eq]

theorem soutA_3 (hc0 : cond0_0 i) (hc1 : ¬cond0_1 i) : sout0_A_3 c i arg1 harg1 arg2 harg2 arg3 harg3 arg4 harg4 arg5 harg5 arg6 harg6 arg7 harg7 arg8 harg8 arg9 harg9 hc0 hc1 x0 x1 = wide (point x0 x1 k0_pay3 k0_pay4 k0_pay5 k0_pay6 k0_pay7 k0_pay8).f1 := by
  unfold sout0_A_3
  rw [View.read_writes_junk_eq_canon, piecesA_3, canon_pieceOf, finish0_eq]

theorem soutA_4 (hc0 : cond0_0 i) (hc1 : ¬cond0_1 i) : sout0_A_4 c i arg1 harg1 arg2 harg2 arg3 harg3 arg4 harg4 arg5 harg5 arg6 harg6 arg7 harg7 arg8 harg8 arg9 harg9 hc0 hc1 x0 x1 = wide (point x0 x1 k0_pay3 k0_pay4 k0_pay5 k0_pay6 k0_pay7 k0_pay8).m := by
  unfold sout0_A_4
  rw [View.read_writes_junk_eq_canon, piecesA_4, canon_pieceOf, finish0_eq]

theorem soutA_5 (hc0 : cond0_0 i) (hc1 : ¬cond0_1 i) : sout0_A_5 c i arg1 harg1 arg2 harg2 arg3 harg3 arg4 harg4 arg5 harg5 arg6 harg6 arg7 harg7 arg8 harg8 arg9 harg9 hc0 hc1 x0 x1 = wide (point x0 x1 k0_pay3 k0_pay4 k0_pay5 k0_pay6 k0_pay7 k0_pay8).s := by
  unfold sout0_A_5
  rw [View.read_writes_junk_eq_canon, piecesA_5, canon_pieceOf, finish0_eq]

theorem soutB_0 (hc0 : ¬cond0_0 i) (hc1 : ¬cond0_1 i) : sout0_B_0 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).h2 := by
  unfold sout0_B_0
  rw [View.read_writes_junk_eq_canon, piecesB_0, canon_pieceOf, finish_eq]

theorem soutB_1 (hc0 : ¬cond0_0 i) (hc1 : ¬cond0_1 i) : sout0_B_1 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).h1 := by
  unfold sout0_B_1
  rw [View.read_writes_junk_eq_canon, piecesB_1, canon_pieceOf, finish_eq]

theorem soutB_2 (hc0 : ¬cond0_0 i) (hc1 : ¬cond0_1 i) : sout0_B_2 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).r1 := by
  unfold sout0_B_2
  rw [View.read_writes_junk_eq_canon, piecesB_2, canon_pieceOf, finish_eq]

theorem soutB_3 (hc0 : ¬cond0_0 i) (hc1 : ¬cond0_1 i) : sout0_B_3 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).f1 := by
  unfold sout0_B_3
  rw [View.read_writes_junk_eq_canon, piecesB_3, canon_pieceOf, finish_eq]

theorem soutB_4 (hc0 : ¬cond0_0 i) (hc1 : ¬cond0_1 i) : sout0_B_4 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).m := by
  unfold sout0_B_4
  rw [View.read_writes_junk_eq_canon, piecesB_4, canon_pieceOf, finish_eq]

theorem soutB_5 (hc0 : ¬cond0_0 i) (hc1 : ¬cond0_1 i) : sout0_B_5 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).s := by
  unfold sout0_B_5
  rw [View.read_writes_junk_eq_canon, piecesB_5, canon_pieceOf, finish_eq]

theorem soutC_0 (hc0 : ¬cond0_0 i) (hc1 : cond0_1 i) : sout0_C_0 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).h2 := by
  unfold sout0_C_0
  rw [View.read_writes_junk_eq_canon, piecesC_0, canon_pieceOf, finish_eq]

theorem soutC_1 (hc0 : ¬cond0_0 i) (hc1 : cond0_1 i) : sout0_C_1 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).h1 := by
  unfold sout0_C_1
  rw [View.read_writes_junk_eq_canon, piecesC_1, canon_pieceOf, finish_eq]

theorem soutC_2 (hc0 : ¬cond0_0 i) (hc1 : cond0_1 i) : sout0_C_2 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).r1 := by
  unfold sout0_C_2
  rw [View.read_writes_junk_eq_canon, piecesC_2, canon_pieceOf, finish_eq]

theorem soutC_3 (hc0 : ¬cond0_0 i) (hc1 : cond0_1 i) : sout0_C_3 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).f1 := by
  unfold sout0_C_3
  rw [View.read_writes_junk_eq_canon, piecesC_3, canon_pieceOf, finish_eq]

theorem soutC_4 (hc0 : ¬cond0_0 i) (hc1 : cond0_1 i) : sout0_C_4 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).m := by
  unfold sout0_C_4
  rw [View.read_writes_junk_eq_canon, piecesC_4, canon_pieceOf, finish_eq]

theorem soutC_5 (hc0 : ¬cond0_0 i) (hc1 : cond0_1 i) : sout0_C_5 c i arg1 harg1 arg2 harg2 arg3 harg3 arg4 harg4 arg5 harg5 arg6 harg6 arg7 harg7 arg8 harg8 arg9 harg9 hc0 hc1 x0 x1 xs0 xs1 xs2 xs3 xs4 xs5 = wide (point x0 x1 xs0 xs1 xs2 xs3 xs4 xs5).s := by
  unfold sout0_C_5
  rw [View.read_writes_junk_eq_canon, piecesC_5, canon_pieceOf, finish_eq]

theorem outC (hc0 : ¬cond0_0 i) (hc1 : cond0_1 i) : out0_C_2 c i arg1 harg1 arg2 harg2 arg3 harg3 arg4 harg4 arg5 harg5 arg6 harg6 arg7 harg7 arg8 harg8 arg9 harg9 hc0 hc1 x0 x1 xs0 xs1 xs2 xs3 xs4 xs5
    = k0_pay2 (wide (point x0 x1 xs0 xs1 xs2 xs3 xs4 xs5).m) (wide (point x0 x1 xs0 xs1 xs2 xs3 xs4 xs5).s) := by
  unfold out0_C_2
  rw [View.read_writes_junk_eq_canon, piecesC_out, readCov_pieceOf, readCov_pieceOf, finish_eq, View.canon_cons_unit_zero (S := S1x1) hz]

end Body

variable (m : (ℓ : Loc nD τ sig) → Buf (Elt F) ℓ) (ρ : Dev nD → PrngReg)

/-- The rows the kernel starts from. -/
def init : St F := ⟨flat k0_pay3, flat k0_pay4, flat k0_pay5, flat k0_pay6, flat k0_pay7, flat k0_pay8⟩

/-- The carried rows after point `n`. -/
def after (c : Dev nD) : (n : ℕ) → n < cfg0.N → St F
  | 0, h => steps (row (iblk m c 0 ⟨0, h⟩)) (row (iblk m c 1 ⟨0, h⟩)) init
  | n + 1, h => steps (row (iblk m c 0 ⟨n + 1, h⟩)) (row (iblk m c 1 ⟨n + 1, h⟩)) (after c n (Nat.lt_of_succ_lt h))

/-- The carried rows as the buffers hold them. -/
def stored (S : St F) : Vec F S1x1024 .f32 × Vec F S1x1024 .f32 × Vec F S1x1024 .f32 × Vec F S1x1024 .f32 × Vec F S1x1024 .f32 × Vec F S1x1024 .f32 :=
  (wide S.h2, wide S.h1, wide S.r1, wide S.f1, wide S.m, wide S.s)

theorem point_stored (x0 x1 : Vec F S16x1x1024 .f32) (S : St F) :
    point x0 x1 (wide S.h2) (wide S.h1) (wide S.r1) (wide S.f1) (wide S.m) (wide S.s) = steps (row x0) (row x1) S := by
  unfold point
  rw [flat_wide, flat_wide, flat_wide, flat_wide, flat_wide, flat_wide]

theorem outsAt_eq (c : Dev nD) : ∀ (n : ℕ) (h : n < cfg0.N), (outsAt0 m c n h).2 = stored (after m c n h)
  | 0, h => by
    have h1 : ¬(⟨0, h⟩ : Fin cfg0.N).val % 128 = 127 := by dsimp only; omega
    refine (congrArg Prod.snd (outsAt0_A m c ⟨0, h⟩ rfl h1)).trans ?_
    dsimp only
    rw [soutA_0, soutA_1, soutA_2, soutA_3, soutA_4, soutA_5]
    rfl
  | n + 1, h => by
    have hN : cfg0.N = 128 := N_0
    have h0 : ¬(⟨n + 1, h⟩ : Fin cfg0.N).val % 128 = 0 := by dsimp only; omega
    have ih := outsAt_eq c n (Nat.lt_of_succ_lt h)
    by_cases h1 : (⟨n + 1, h⟩ : Fin cfg0.N).val % 128 = 127
    · refine (congrArg Prod.snd (outsAt0_C m c ⟨n + 1, h⟩ h0 h1)).trans ?_
      dsimp only
      rw [soutC_0, soutC_1, soutC_2, soutC_3, soutC_4, soutC_5]
      simp only [Nat.add_sub_cancel, ih]
      simp only [stored]
      rw [point_stored]
      rfl
    · refine (congrArg Prod.snd (outsAt0_B m c ⟨n + 1, h⟩ h0 h1)).trans ?_
      dsimp only
      rw [soutB_0, soutB_1, soutB_2, soutB_3, soutB_4, soutB_5]
      simp only [Nat.add_sub_cancel, ih]
      simp only [stored]
      rw [point_stored]
      rfl

theorem lastN : 127 < cfg0.N := by rw [show cfg0.N = 128 from N_0]; decide

/-- The last point's output block. -/
def total (c : Dev nD) : FVec F S1x1 .f32 :=
  k0_pay2 (wide (after m c 127 lastN).m) (wide (after m c 127 lastN).s)

theorem out_last (c : Dev nD) : (outsAt0 m c 127 lastN).1 = total m c := by
  have ih := outsAt_eq m c 126 (Nat.lt_of_succ_lt lastN)
  refine (congrArg Prod.fst (outsAt0_C m c ⟨127, lastN⟩ (by dsimp only; omega) (by dsimp only))).trans ?_
  dsimp only
  rw [outC]
  simp only [Nat.reduceSub, ih]
  simp only [stored]
  rw [point_stored]
  rfl

end Cert.KernelIdeal.Value

end
-- ==== Proof.KFinal.lean ====
/- The kernel's run: its result is the last point's output block, its argument is unchanged. -/
module

public import proofs.«01_k».proof.Proof.KRun
public import Idealize.ShloMosaic.Lib.Pipeline.Value
public import Idealize.ShloMosaic.Lib.StableHlo.Run
public import Idealize.ShloMosaic.Lib.Tactic

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ) (ρ : Dev nD → PrngReg)

/-- The output block, as contents of the result array. -/
abbrev result (c : Dev nD) : Buf (Elt F) ((c : Thread nD τ).loc main_call0_v16) := total m c

theorem flushed_eq (c : Dev nD) (t : Fin cfg0.N) (hf : (cfg0.win 2).flush t = true) :
    (dats m 0 c).flushed 2 t = ((cfg0.win 2).blk t).view.read (Elt F) (result m c) := by
  have hN : cfg0.N = 128 := N_0
  have h3 : t.val = 127 := by have := (flush0_2 t).mp hf; have := t.isLt; omega
  obtain rfl : t = ⟨127, lastN⟩ := Fin.ext h3
  show (cfg0.win 2).cut (grid0.coords ⟨127, lastN⟩) ((dats m 0 c).after 2 ⟨127, lastN⟩) = _
  rw [after0_2]
  rw [show (outsAt0 m c (⟨127, lastN⟩ : Fin cfg0.N).val (⟨127, lastN⟩ : Fin cfg0.N).isLt).1 = total m c from out_last m c]
  have hz' : (fun a => win0_2.index ⟨127, lastN⟩ a * main_call0_v16.ty.shape.size a) = fun _ => 0 := funext fun a => by fin_cases a <;> rfl
  exact (Memref.read_access_unit_zero (Elt F) main_call0_v16 hz' (fun a => by rw [congrFun hz' a]; simp) (result m c)).symm

theorem final_o (c : Dev nD) : (dats m 0 c).arrAt 2 cfg0.N = result m c :=
  (dats m 0 c).arrAt_eq_of_cover 2 (result m c) (flushed_eq m c) fun i =>
    ⟨⟨127, lastN⟩, (flush0_2 ⟨127, lastN⟩).mpr rfl, by
      show i ∈ ((View.whole main_call0_v16).slice (win0_2.rect ⟨127, lastN⟩)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

/-- The result: the output block as a scalar. -/
def answer (c : Dev nD) : Buf (Elt F) ((c : Thread nD τ).loc main_v0) := shapeCast S_ (total m c) shapeCasts_S1x1_S_

theorem tail_eq (c : Dev nD) : Pipeline.afterTail₀ cfgs (dats m) 0 (V0 m) [hostOps1] c main_v0 = answer m c := by
  have hw : Pipeline.withArrays (cfgs 0).spec c (V0 m c) (fun w => (dats m 0 c).arrAt w (cfgs 0).N) (Proc.devRef .tc main_call0_v16)
      = total m c :=
    ((dats m 0 c).withArrays_arrAt (by decide) (V0 m c) (A_eq m c) 2).trans (final_o m c)
  unfold Pipeline.afterTail₀ answer
  simp only [hostOps1, List.flatten_cons, List.flatten_nil, List.append_nil]
  rw [← hw]
  generalize Pipeline.withArrays _ _ _ _ = W
  after_results
  rfl

theorem run : θ_run defs (onTc (τ := τ) (main (F := F))) ⟨m, fun _ => 0, ρ⟩ fun r => ∀ c : Dev nD,
      r.2.mem ((c : Thread nD τ).loc main_v0) = answer m c
      ∧ r.2.mem ((c : Thread nD τ).loc main_arg0) = m ((c : Thread nD τ).loc main_arg0) :=
  (θ_run defs _ _).mono (fun _ h c =>
      ⟨((h c).2 main_v0 (Pipeline.mem_restRefs_of main_v0 (by decide) (by decide))).trans (tail_eq m c),
       ((h c).2 main_arg0 (Pipeline.mem_restRefs_of main_arg0 (by decide) (by decide))).trans (W_main_arg0 m (dats m) c)⟩)
    (run_main m ρ)

end Cert.KernelIdeal.Value

end
-- ==== Proof.KIdeal.lean ====
/- The kernel's recurrence over the extended reals: its rows are the logarithms of the weights of
   the lanes, and the running maximum times the running sum is the weight met so far. -/
module

public import proofs.«01_k».proof.Proof.KFinal
public import proofs.«01_k».proof.Proof.LogDomain
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.Soft

theorem zer_eq : (zer : Ideal .f32) = L 1 := bits_zero.trans L_one.symm

theorem msk_eq : (msk : Ideal .f32) = L 0 :=
  (IdealRules.named_const.ideal_named_scalar _ _ _ _ rfl).trans L_zero.symm

theorem cgo_eq (i : S1024.Idx) : (cgo : FVec Ideal S1024 .f32) i = (Co : EReal) := exp_open

theorem cge_eq (i : S1024.Idx) : (cge : FVec Ideal S1024 .f32) i = (Ce : EReal) := exp_extend

theorem shiftRow_zero (u : FVec Ideal S1024 .f32) (fill : Ideal .f32) : shiftRow u fill (ix1 (0 : Fin 1024)) = fill := by
  rfl

theorem shiftRow_pos (u : FVec Ideal S1024 .f32) (fill : Ideal .f32) (k : Fin 1024) (hk : 0 < k.val) :
    shiftRow u fill (ix1 k) = u (ix1 ⟨k.val - 1, by omega⟩) := by
  unfold shiftRow
  pointwise []
  rw [dif_neg (by omega)]

theorem load_apply (y : FVec Ideal S1x1x1024 .f32) (k : Fin 1024) :
    shapeCast S1024 y shapeCasts_S1x1x1024_S1024 (ix1 k) = y (ix3 (0 : Fin 1) (0 : Fin 1) k) := by
  rw [shapeCast_apply _ _ (ix1 k) (ix3 (0 : Fin 1) (0 : Fin 1) k) (by
    rw [Shape.rowMajor_val_one, Shape.rowMajor_val_three]
    show (0 * 1 + 0) * 1024 + k.val = k.val
    omega)]

/-- A row of logarithms shifted by one lane. -/
theorem shiftRow_L (g : Cell → ℝ) (P : ℕ → Cell) (u : FVec Ideal S1024 .f32) (fill : Ideal .f32)
    (hu : ∀ k : Fin 1024, u (ix1 k) = L (g (P k.val))) (hf : fill = L (g Cell.zero)) (k : Fin 1024) :
    shiftRow u fill (ix1 k) = L (g (before P k.val)) := by
  unfold before
  by_cases hk : k.val = 0
  · obtain rfl : k = 0 := Fin.ext hk
    rw [shiftRow_zero, if_pos hk, hf]
  · rw [shiftRow_pos u fill k (by omega), if_neg hk, hu]

/-- What the kernel's rows hold before step `t`, for scores of weights `X` and `Z`. -/
structure Inv (X Z : ℕ → ℕ → ℝ) (t : ℕ) (S : St Ideal) : Prop where
  h2 : ∀ k : Fin 1024, S.h2 (ix1 k) = L (1 + ((lanes X t).1 k.val).total)
  h1 : ∀ k : Fin 1024, S.h1 (ix1 k) = L (1 + ((lanes X t).2 k.val).total)
  r1 : ∀ k : Fin 1024, S.r1 (ix1 k) = L ((lanes X t).2 k.val).right
  f1 : ∀ k : Fin 1024, S.f1 (ix1 k) = L ((lanes X t).2 k.val).down
  ms : ∀ k : Fin 1024, ∃ M σ : ℝ, 0 ≤ M ∧ 0 ≤ σ ∧ S.m (ix1 k) = L M ∧ S.s (ix1 k) = (σ : EReal)
    ∧ σ * M = ∑ t' ∈ Finset.range t, (cell X t' k.val).total * Z t' k.val

theorem inv_step {X Z : ℕ → ℕ → ℝ} (hX : ∀ t k, 0 ≤ X t k) (hZ : ∀ t k, 0 ≤ Z t k) {t : ℕ} {S : St Ideal} (h : Inv X Z t S)
    (y z : FVec Ideal S1x1x1024 .f32) (hy : ∀ k : Fin 1024, y (ix3 (0 : Fin 1) (0 : Fin 1) k) = L (X t k.val))
    (hz : ∀ k : Fin 1024, z (ix3 (0 : Fin 1) (0 : Fin 1) k) = L (Z t k.val)) : Inv X Z (t + 1) (step y z S) := by
  obtain ⟨hP, hC⟩ := lanes_nonneg hX t
  have haln : ∀ k : Fin 1024, alnV y S (ix1 k) = L (cell X t k.val).a := fun k => by
    show shapeCast S1024 y shapeCasts_S1x1x1024_S1024 (ix1 k) + shiftRow S.h2 zer (ix1 k) = _
    rw [load_apply, hy, shiftRow_L (fun w => 1 + w.total) _ _ _ h.h2 (by rw [Cell.zero_total, add_zero, zer_eq]) k,
      L_add (hX _ _) (add_nonneg zero_le_one (before_nonneg hP _).total)]
    rfl
  have hdwn : ∀ k : Fin 1024, dwnV S (ix1 k) = L (cell X t k.val).d := fun k =>
    shiftRow_L Cell.down _ _ _ h.f1 (by rw [Cell.zero_down, msk_eq]) k
  have hrgt : ∀ k : Fin 1024, S.r1 (ix1 k) = L (cell X t k.val).r := h.r1
  have hn : ∀ k : Fin 1024, (cell X t k.val).Nonneg := fun k => cell_nonneg hX t _
  have hq : ∀ k : Fin 1024, qV y S (ix1 k) = L (big (cell X t k.val).a (cell X t k.val).r (cell X t k.val).d) := fun k => by
    show max (max (alnV y S (ix1 k)) (S.r1 (ix1 k))) (max (dwnV S (ix1 k)) (zer : Ideal .f32)) = _
    rw [haln, hrgt, hdwn, ← cell_q (hn k).1 (hn k).2.1 (hn k).2.2, zer_eq, L_one]
  have hea : ∀ k : Fin 1024, eaV y S (ix1 k) = (((cell X t k.val).a / big (cell X t k.val).a (cell X t k.val).r (cell X t k.val).d : ℝ) : EReal) := fun k => by
    show Ideal.exp (alnV y S (ix1 k) - qV y S (ix1 k)) = _
    rw [haln, hq, exp_sub (hn k).1 big_pos]
  have her : ∀ k : Fin 1024, erV y S (ix1 k) = (((cell X t k.val).r / big (cell X t k.val).a (cell X t k.val).r (cell X t k.val).d : ℝ) : EReal) := fun k => by
    show Ideal.exp (S.r1 (ix1 k) - qV y S (ix1 k)) = _
    rw [hrgt, hq, exp_sub (hn k).2.1 big_pos]
  have hed : ∀ k : Fin 1024, edV y S (ix1 k) = (((cell X t k.val).d / big (cell X t k.val).a (cell X t k.val).r (cell X t k.val).d : ℝ) : EReal) := fun k => by
    show Ideal.exp (dwnV S (ix1 k) - qV y S (ix1 k)) = _
    rw [hdwn, hq, exp_sub (hn k).2.2 big_pos]
  have he0 : ∀ k : Fin 1024, e0V y S (ix1 k) = ((1 / big (cell X t k.val).a (cell X t k.val).r (cell X t k.val).d : ℝ) : EReal) := fun k => by
    show Ideal.exp ((zer : Ideal .f32) - qV y S (ix1 k)) = _
    rw [zer_eq, hq, exp_sub zero_le_one big_pos]
  refine ⟨h.h1, fun k => ?_, fun k => ?_, fun k => ?_, fun k => ?_⟩
  · show qV y S (ix1 k) + Ideal.log (eaV y S (ix1 k) + erV y S (ix1 k) + edV y S (ix1 k) + e0V y S (ix1 k)) = _
    rw [hea, her, hed, he0, hq, cell_h (hn k).1 (hn k).2.1 (hn k).2.2]
    rfl
  · show qV y S (ix1 k) + Ideal.log (eaV y S (ix1 k) * (cgo : FVec Ideal S1024 .f32) (ix1 k) + erV y S (ix1 k) * (cge : FVec Ideal S1024 .f32) (ix1 k)) = _
    rw [hea, her, cgo_eq, cge_eq, hq, cell_r (hn k).1 (hn k).2.1 (hn k).2.2]
    rfl
  · show qV y S (ix1 k) + Ideal.log ((eaV y S (ix1 k) + erV y S (ix1 k)) * (cgo : FVec Ideal S1024 .f32) (ix1 k) + edV y S (ix1 k) * (cge : FVec Ideal S1024 .f32) (ix1 k)) = _
    rw [hea, her, hed, cgo_eq, cge_eq, hq, cell_f (hn k).1 (hn k).2.1 (hn k).2.2]
    rfl
  · obtain ⟨M, σ, hM, hσ, hm, hs, hMσ⟩ := h.ms k
    obtain ⟨M', σ', hM', hσ', e1, e2, e3⟩ := cell_s (hn k).1 (hn k).2.1 (hn k).2.2 (hZ t k.val) hM hσ (se3V y S (ix1 k)) (by
      show eaV y S (ix1 k) + erV y S (ix1 k) + edV y S (ix1 k) = _
      rw [hea, her, hed])
    have hqz : qzV y z S (ix1 k) = L (big (cell X t k.val).a (cell X t k.val).r (cell X t k.val).d) + L (Z t k.val) := by
      show qV y S (ix1 k) + shapeCast S1024 z shapeCasts_S1x1x1024_S1024 (ix1 k) = _
      rw [hq, load_apply, hz]
    have hkeep : keepV y z S (ix1 k) = BitVec.ofBool (decide (qzV y z S (ix1 k) ≤ S.m (ix1 k))) := rfl
    refine ⟨M', σ', hM', hσ', ?_, ?_, ?_⟩
    · show max (S.m (ix1 k)) (qzV y z S (ix1 k)) = _
      rw [hqz, hm, e1]
    · rw [← e2]
      show (if keepV y z S (ix1 k) = 1#1 then S.s (ix1 k) + se3V y S (ix1 k) * Ideal.exp (if keepV y z S (ix1 k) = 1#1 then qzV y z S (ix1 k) - S.m (ix1 k) else S.m (ix1 k) - qzV y z S (ix1 k))
        else S.s (ix1 k) * Ideal.exp (if keepV y z S (ix1 k) = 1#1 then qzV y z S (ix1 k) - S.m (ix1 k) else S.m (ix1 k) - qzV y z S (ix1 k)) + se3V y S (ix1 k)) = _
      by_cases hc : L (big (cell X t k.val).a (cell X t k.val).r (cell X t k.val).d) + L (Z t k.val) ≤ L M
      · have hk : keepV y z S (ix1 k) = 1#1 := by rw [hkeep, hqz, hm, decide_eq_true hc]; rfl
        simp only [if_pos hk]
        rw [if_pos hc, hqz, hm, hs]
      · have hk : ¬keepV y z S (ix1 k) = 1#1 := by rw [hkeep, hqz, hm, decide_eq_false hc]; decide
        simp only [if_neg hk]
        rw [if_neg hc, hqz, hm, hs]
    · rw [e3, hMσ, Finset.sum_range_succ]
      rfl

/-- Sixteen steps. -/
theorem inv_steps {X Z : ℕ → ℕ → ℝ} (hX : ∀ t k, 0 ≤ X t k) (hZ : ∀ t k, 0 ≤ Z t k) {t : ℕ} {S : St Ideal} (h : Inv X Z t S)
    (Y W : Fin 16 → FVec Ideal S1x1x1024 .f32)
    (hy : ∀ (u : Fin 16) (k : Fin 1024), Y u (ix3 (0 : Fin 1) (0 : Fin 1) k) = L (X (t + u.val) k.val))
    (hz : ∀ (u : Fin 16) (k : Fin 1024), W u (ix3 (0 : Fin 1) (0 : Fin 1) k) = L (Z (t + u.val) k.val)) : Inv X Z (t + 16) (steps Y W S) := by
  have go : ∀ (u : Fin 16) (S : St Ideal), Inv X Z (t + u.val) S → Inv X Z (t + u.val + 1) (step (Y u) (W u) S) := fun u S h =>
    inv_step hX hZ h _ _ (hy u) (hz u)
  exact go 15 _ <| go 14 _ <| go 13 _ <| go 12 _ <| go 11 _ <| go 10 _ <| go 9 _ <| go 8 _ <| go 7 _ <| go 6 _ <| go 5 _ <|
    go 4 _ <| go 3 _ <| go 2 _ <| go 1 _ <| go 0 _ h

end Cert.KernelIdeal.Value

end
-- ==== Proof.KInput.lean ====
/- The kernel's two input arrays: the score matrix, and its part one row and one column further on,
   with entry (p, q) at row p + q, lane p, and minus infinity everywhere else. -/
module

public import proofs.«01_k».proof.Proof.KRun
public import Idealize.ShloMosaic.Lib.Pipeline.Value
public import Idealize.ShloMosaic.Lib.StableHlo.Run
public import Idealize.ShloMosaic.Lib.Pointwise
public import Idealize.ShloMosaic.Lib.KernelVsHost
public import Idealize.ShloMosaic.Lib.Tactic

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable {F : FTy → Type} [FloatOps F] [Named F]

/-- The fill of the host's paddings. -/
def low : FVec F S_ .f32 := constant S_ .f32 0xFF800000#32

/-- The matrix with each row one place further right than the one before. -/
def slanted (x : FVec F S1023x1023 .f32) : FVec F S1023x2045 .f32 :=
  shapeCast S1023x2045
    (extractStridedSlice S2092035 ![0]
      (shapeCast S2093058 (pad S1023x2046 ![0, 0] ![0, 1023] ![0, 0] x low pads_S1023x1023_S1023x2046_000_010230 h_S_)
        shapeCasts_S1023x2046_S2093058)
      slices_S2093058_S2092035_0)
    shapeCasts_S2092035_S1023x2045

/-- Its transpose, padded to the kernel's array. -/
def skewed (x : FVec F S1023x1023 .f32) : FVec F S2048x1x1024 .f32 :=
  shapeCast S2048x1x1024
    (pad S2048x1024 ![0, 0] ![3, 1] ![0, 0] (transpose S2045x1023 [1, 0] (slanted x) transposes_S1023x2045_S2045x1023_1_0)
      low pads_S2045x1023_S2048x1024_030_010 h_S_)
    shapeCasts_S2048x1024_S2048x1x1024

theorem padded_in (x : FVec F S1023x1023 .f32) (k : Fin 1023) (q : Fin 2046) (hq : q.val < 1023) :
    pad S1023x2046 ![0, 0] ![0, 1023] ![0, 0] x low pads_S1023x1023_S1023x2046_000_010230 h_S_ (ix2 k q) = x (ix2 k ⟨q.val, hq⟩) :=
  pad_apply_of_inside _ _ _ _ _ _ _ _ _ fun a => by
    match a with
    | ⟨0, _⟩ => show k.val = 0 + k.val * (0 + 1); omega
    | ⟨1, _⟩ => show q.val = 0 + q.val * (0 + 1); omega

theorem padded_out (x : FVec F S1023x1023 .f32) (k : Fin 1023) (q : Fin 2046) (hq : ¬q.val < 1023) :
    pad S1023x2046 ![0, 0] ![0, 1023] ![0, 0] x low pads_S1023x1023_S1023x2046_000_010230 h_S_ (ix2 k q)
      = low (Shape.Idx.first h_S_) :=
  pad_apply_of_not_inside _ _ _ _ _ _ _ _ (1 : Fin 2) fun h => hq (by
    have h3 : (q.val - 0) / (0 + 1) < 1023 := h.2.2
    omega)

/-- Row `k`, column `T` of the slanted matrix is the padded matrix at the same place in row-major order. -/
theorem slanted_flat (x : FVec F S1023x1023 .f32) (k : Fin 1023) (T : Fin 2045) (p : Fin 1023) (q : Fin 2046)
    (h : p.val * 2046 + q.val = k.val * 2045 + T.val) :
    slanted x (ix2 k T) = pad S1023x2046 ![0, 0] ![0, 1023] ![0, 0] x low pads_S1023x1023_S1023x2046_000_010230 h_S_ (ix2 p q) := by
  have hl : k.val * 2045 + T.val < 2092035 := by have := k.isLt; have := T.isLt; omega
  unfold slanted
  rw [shapeCast_apply _ _ (ix2 k T) (ix1 (⟨k.val * 2045 + T.val, hl⟩ : Fin 2092035)) (by
    rw [Shape.rowMajor_val_one, Shape.rowMajor_val_two]; rfl)]
  show shapeCast S2093058 _ _ _ = _
  rw [shapeCast_apply _ _ _ (ix2 p q) (by
    rw [Shape.rowMajor_val_one, Shape.rowMajor_val_two]
    show p.val * 2046 + q.val = 0 + (k.val * 2045 + T.val)
    omega)]

theorem slanted_in (x : FVec F S1023x1023 .f32) (k : Fin 1023) (T : Fin 2045) (hk : k.val ≤ T.val) (hT : T.val - k.val < 1023) :
    slanted x (ix2 k T) = x (ix2 k ⟨T.val - k.val, hT⟩) := by
  rw [slanted_flat x k T k ⟨T.val - k.val, by omega⟩ (by show k.val * 2046 + (T.val - k.val) = _; omega), padded_in x k _ hT]

theorem slanted_out (x : FVec F S1023x1023 .f32) (k : Fin 1023) (T : Fin 2045) (h : ¬(k.val ≤ T.val ∧ T.val - k.val < 1023)) :
    slanted x (ix2 k T) = low (Shape.Idx.first h_S_) := by
  have hk := k.isLt
  have hT := T.isLt
  by_cases hkT : k.val ≤ T.val
  · rw [slanted_flat x k T k ⟨T.val - k.val, by omega⟩ (by show k.val * 2046 + (T.val - k.val) = _; omega)]
    exact padded_out x _ _ fun h' => h ⟨hkT, h'⟩
  · rw [slanted_flat x k T ⟨k.val - 1, by omega⟩ ⟨2046 + T.val - k.val, by omega⟩ (by
      show (k.val - 1) * 2046 + (2046 + T.val - k.val) = _; omega)]
    exact padded_out x _ _ (by show ¬(2046 + T.val - k.val < 1023); omega)

theorem skewed_eq (x : FVec F S1023x1023 .f32) (T : Fin 2048) (k : Fin 1024) :
    skewed x (ix3 T (0 : Fin 1) k)
      = pad S2048x1024 ![0, 0] ![3, 1] ![0, 0] (transpose S2045x1023 [1, 0] (slanted x) transposes_S1023x2045_S2045x1023_1_0)
          low pads_S2045x1023_S2048x1024_030_010 h_S_ (ix2 T k) := by
  unfold skewed
  rw [shapeCast_apply _ _ (ix3 T (0 : Fin 1) k) (ix2 T k) (by
    rw [Shape.rowMajor_val_two, Shape.rowMajor_val_three]
    show T.val * 1024 + k.val = (T.val * 1 + 0) * 1024 + k.val
    omega)]

theorem turned (y : FVec F S1023x2045 .f32) (T : Fin 2045) (k : Fin 1023) :
    transpose S2045x1023 [1, 0] y transposes_S1023x2045_S2045x1023_1_0 (ix2 T k) = y (ix2 k T) := by
  show y _ = y _
  congr 1
  funext a
  match a with
  | ⟨0, _⟩ => rfl
  | ⟨1, _⟩ => rfl

/-- Lane `k` of row `T`, where it holds an entry of the matrix. -/
theorem skewed_in (x : FVec F S1023x1023 .f32) (T : Fin 2048) (k : Fin 1024) (hk : k.val < 1023) (hkT : k.val ≤ T.val)
    (hT : T.val - k.val < 1023) : skewed x (ix3 T (0 : Fin 1) k) = x (ix2 ⟨k.val, hk⟩ ⟨T.val - k.val, hT⟩) := by
  have hT' : T.val < 2045 := by omega
  rw [skewed_eq]
  rw [pad_apply_of_inside _ _ _ _ _ _ _ _ (ix2 (⟨T.val, hT'⟩ : Fin 2045) (⟨k.val, hk⟩ : Fin 1023)) fun a => by
    match a with
    | ⟨0, _⟩ => show T.val = 0 + T.val * (0 + 1); omega
    | ⟨1, _⟩ => show k.val = 0 + k.val * (0 + 1); omega]
  rw [turned]
  exact slanted_in x ⟨k.val, hk⟩ ⟨T.val, hT'⟩ hkT hT

/-- Every other lane holds the fill. -/
theorem skewed_out (x : FVec F S1023x1023 .f32) (T : Fin 2048) (k : Fin 1024)
    (h : ¬(k.val < 1023 ∧ k.val ≤ T.val ∧ T.val - k.val < 1023)) :
    skewed x (ix3 T (0 : Fin 1) k) = low (Shape.Idx.first h_S_) := by
  rw [skewed_eq]
  by_cases hk : k.val < 1023
  · by_cases hT' : T.val < 2045
    · rw [pad_apply_of_inside _ _ _ _ _ _ _ _ (ix2 (⟨T.val, hT'⟩ : Fin 2045) (⟨k.val, hk⟩ : Fin 1023)) fun a => by
        match a with
        | ⟨0, _⟩ => show T.val = 0 + T.val * (0 + 1); omega
        | ⟨1, _⟩ => show k.val = 0 + k.val * (0 + 1); omega]
      rw [turned]
      exact slanted_out x ⟨k.val, hk⟩ ⟨T.val, hT'⟩ fun h' => h ⟨hk, h'⟩
    · exact pad_apply_of_not_inside _ _ _ _ _ _ _ _ (0 : Fin 2) fun h' => hT' (by
        have h3 : (T.val - 0) / (0 + 1) < 2045 := h'.2.2
        omega)
  · exact pad_apply_of_not_inside _ _ _ _ _ _ _ _ (1 : Fin 2) fun h' => hk (by
      have h3 : (k.val - 0) / (0 + 1) < 1023 := h'.2.2
      omega)

variable (m : (ℓ : Loc nD τ sig) → Buf (Elt F) ℓ)

/-- The argument, on device `c`. -/
def arg (c : Dev nD) : FVec F S1024x1024 .f32 := m ((c : Thread nD τ).loc main_arg0)

theorem V_y (c : Dev nD) : V m c main_call0_v8 = skewed (extractStridedSlice S1023x1023 ![0, 0] (arg m c) slices_S1024x1024_S1023x1023_0_0) := by
  show StableHlo.after (List.flatten [hostOps0]) _ (Proc.devRef .tc main_call0_v8) = _
  simp only [hostOps0, List.flatten_cons, List.flatten_nil, List.append_nil]
  after_results
  rfl

theorem V_z (c : Dev nD) : V m c main_call0_v15 = skewed (extractStridedSlice S1023x1023 ![1, 1] (arg m c) slices_S1024x1024_S1023x1023_1_1) := by
  show StableHlo.after (List.flatten [hostOps0]) _ (Proc.devRef .tc main_call0_v15) = _
  simp only [hostOps0, List.flatten_cons, List.flatten_nil, List.append_nil]
  after_results
  rfl

theorem index_0 : ∀ t : Fin cfg0.N, win0_0.index t 0 = t.val ∧ win0_0.index t 1 = 0 ∧ win0_0.index t 2 = 0 := by
  have : ∀ t : Fin 128, win0_0.index (t.cast N_0.symm) 0 = t.val ∧ win0_0.index (t.cast N_0.symm) 1 = 0 ∧ win0_0.index (t.cast N_0.symm) 2 = 0 := by decide +kernel
  intro t
  exact this (t.cast N_0)

theorem index_1 : ∀ t : Fin cfg0.N, win0_1.index t 0 = t.val ∧ win0_1.index t 1 = 0 ∧ win0_1.index t 2 = 0 := by
  have : ∀ t : Fin 128, win0_1.index (t.cast N_0.symm) 0 = t.val ∧ win0_1.index (t.cast N_0.symm) 1 = 0 ∧ win0_1.index (t.cast N_0.symm) 2 = 0 := by decide +kernel
  intro t
  exact this (t.cast N_0)

/-- Row `u` of a block, lane by lane. -/
theorem row_apply (x : Vec F S16x1x1024 .f32) (u : Fin 16) (k : Fin 1024) : row x u (ix3 (0 : Fin 1) (0 : Fin 1) k) = x (ix3 u (0 : Fin 1) k) := by
  show x _ = x _
  congr 1
  funext a
  apply Fin.ext
  match a with
  | ⟨0, _⟩ => show u.val + 1 * 0 = u.val; omega
  | ⟨1, _⟩ => show 0 + 1 * 0 = 0; omega
  | ⟨2, _⟩ => show 0 + 1 * k.val = k.val; omega

theorem block_y (c : Dev nD) (t : Fin cfg0.N) (u : Fin 16) (k : Fin 1024) (T : Fin 2048) (hT : T.val = 16 * t.val + u.val) :
    row (iblk m c 0 t) u (ix3 (0 : Fin 1) (0 : Fin 1) k)
      = skewed (extractStridedSlice S1023x1023 ![0, 0] (arg m c) slices_S1024x1024_S1023x1023_0_0) (ix3 T (0 : Fin 1) k) := by
  rw [row_apply, ← V_y m c]
  obtain ⟨i0, i1, i2⟩ := index_0 t
  unfold iblk
  rw [View.read_apply]
  show V m c main_call0_v8 _ = V m c main_call0_v8 _
  congr 1
  funext a
  apply Fin.ext
  match a with
  | ⟨0, _⟩ => show win0_0.index t 0 * 16 + 1 * u.val = T.val; rw [i0]; omega
  | ⟨1, _⟩ => show win0_0.index t 1 * 1 + 1 * 0 = 0; rw [i1]
  | ⟨2, _⟩ => show win0_0.index t 2 * 1024 + 1 * k.val = k.val; rw [i2]; omega

theorem block_z (c : Dev nD) (t : Fin cfg0.N) (u : Fin 16) (k : Fin 1024) (T : Fin 2048) (hT : T.val = 16 * t.val + u.val) :
    row (iblk m c 1 t) u (ix3 (0 : Fin 1) (0 : Fin 1) k)
      = skewed (extractStridedSlice S1023x1023 ![1, 1] (arg m c) slices_S1024x1024_S1023x1023_1_1) (ix3 T (0 : Fin 1) k) := by
  rw [row_apply, ← V_z m c]
  obtain ⟨i0, i1, i2⟩ := index_1 t
  unfold iblk
  rw [View.read_apply]
  show V m c main_call0_v15 _ = V m c main_call0_v15 _
  congr 1
  funext a
  apply Fin.ext
  match a with
  | ⟨0, _⟩ => show win0_1.index t 0 * 16 + 1 * u.val = T.val; rw [i0]; omega
  | ⟨1, _⟩ => show win0_1.index t 1 * 1 + 1 * 0 = 0; rw [i1]
  | ⟨2, _⟩ => show win0_1.index t 2 * 1024 + 1 * k.val = k.val; rw [i2]; omega

end Cert.KernelIdeal.Value

end
-- ==== Proof.KTotal.lean ====
/- The kernel's result over the extended reals: the logarithm of the sum of all contributions. -/
module

public import proofs.«01_k».proof.Proof.KIdeal
public import proofs.«01_k».proof.Proof.KInput
public import proofs.«01_k».proof.Proof.Weights
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.Soft

theorem wide_apply (u : FVec Ideal S1024 .f32) (k : Fin 1024) : wide u (ix2 (0 : Fin 1) k) = u (ix1 k) := by
  unfold wide
  rw [shapeCast_apply _ _ (ix2 (0 : Fin 1) k) (ix1 k) (by
    rw [Shape.rowMajor_val_one, Shape.rowMajor_val_two]
    show k.val = 0 * 1024 + k.val
    omega)]

theorem flat_apply (u : Vec Ideal S1x1024 .f32) (k : Fin 1024) : flat u (ix1 k) = u (ix2 (0 : Fin 1) k) := by
  unfold flat
  rw [shapeCast_apply _ _ (ix1 k) (ix2 (0 : Fin 1) k) (by
    rw [Shape.rowMajor_val_one, Shape.rowMajor_val_two]
    show 0 * 1024 + k.val = k.val
    omega)]

/-- The first rows. -/
theorem inv_init (X Z : ℕ → ℕ → ℝ) : Inv X Z 0 (init : St Ideal) := by
  have e0 : ∀ k : Fin 1024, (flat (k0_pay3 (F := Ideal)) : FVec Ideal S1024 .f32) (ix1 k) = L 1 := fun k => by
    rw [flat_apply]; exact zer_eq
  have e1 : ∀ k : Fin 1024, (flat (k0_pay5 (F := Ideal)) : FVec Ideal S1024 .f32) (ix1 k) = L 0 := fun k => by
    rw [flat_apply]; exact msk_eq
  refine ⟨fun k => (e0 k).trans ?_, fun k => (e0 k).trans ?_, fun k => (e1 k).trans ?_, fun k => (e1 k).trans ?_, fun k =>
    ⟨0, 0, le_rfl, le_rfl, e1 k, ?_, ?_⟩⟩
  · show L 1 = L (1 + Cell.zero.total); rw [Cell.zero_total, add_zero]
  · show L 1 = L (1 + Cell.zero.total); rw [Cell.zero_total, add_zero]
  · show L 0 = L Cell.zero.right; rw [Cell.zero_right]
  · show L 0 = L Cell.zero.down; rw [Cell.zero_down]
  · exact (e0 k).trans L_one
  · simp

/-- A maximum of logarithms is the logarithm of a bound of their weights, which is 0 only where they all are. -/
theorem fold_max {ι : Type} (s : Finset ι) (M : ι → ℝ) (hM : ∀ k, 0 ≤ M k) :
    ∃ G : ℝ, 0 ≤ G ∧ s.fold max (⊥ : EReal) (fun k => L (M k)) = L G ∧ ∀ k ∈ s, M k ≤ G := by
  classical
  induction s using Finset.induction_on with
  | empty => exact ⟨0, le_rfl, L_zero.symm, fun k hk => absurd hk (Finset.notMem_empty k)⟩
  | insert a s ha ih =>
    obtain ⟨G, hG, e, hb⟩ := ih
    refine ⟨max (M a) G, le_max_of_le_left (hM a), ?_, fun k hk => ?_⟩
    · rw [Finset.fold_insert ha, e, L_max (hM a) hG]
    · rcases Finset.mem_insert.mp hk with rfl | hk
      · exact le_max_left _ _
      · exact (hb k hk).trans (le_max_right _ _)

/-- The last point's reduction of the running rows. -/
theorem pay2_apply (m s : Vec Ideal S1x1024 .f32) (M σ : Fin 1024 → ℝ) (hM : ∀ k, 0 ≤ M k) (hσ : ∀ k, 0 ≤ σ k)
    (hm : ∀ k, m (ix2 (0 : Fin 1) k) = L (M k)) (hs : ∀ k, s (ix2 (0 : Fin 1) k) = (σ k : EReal)) :
    k0_pay2 m s (ix2 (0 : Fin 1) (0 : Fin 1)) = L (∑ k, σ k * M k) := by
  unfold k0_pay2
  pointwise []
  simp only [hm, hs, bits_low]
  obtain ⟨G, hG, e, hb⟩ := fold_max (ι := Fin 1 × Fin 1024) Finset.univ (fun x => M x.2) fun x => hM x.2
  have e' : Finset.fold max (⊥ : EReal) (fun x : Fin 1 × Fin 1024 => L (M x.2)) Finset.univ = L G := e
  rw [e', Fin.sum_univ_one]
  rcases hG.eq_or_lt with rfl | hG
  · have h0 : ∀ k, M k = 0 := fun k => le_antisymm (hb (0, k) (Finset.mem_univ _)) (hM k)
    rw [L_zero, EReal.bot_add, Finset.sum_eq_zero fun k _ => by rw [h0 k, mul_zero], L_zero]
  · have h1 : ∀ k, (σ k : EReal) * Ideal.exp (L (M k) - L G) = ((σ k * (M k / G) : ℝ) : EReal) := fun k => by
      rw [exp_sub (hM k) hG, EReal.coe_mul]
    simp only [h1]
    rw [coe_sum, log_real, L_add hG.le (Finset.sum_nonneg fun k _ => mul_nonneg (hσ k) (div_nonneg (hM k) hG.le)), Finset.mul_sum]
    congr 1
    exact Finset.sum_congr rfl fun k _ => by field_simp

theorem low_eq (i : S_.Idx) : (low : FVec Ideal S_ .f32) i = ⊥ := bits_low

variable (m : (ℓ : Loc nD τ sig) → Buf (Elt Ideal) ℓ)

theorem load_y (c : Dev nD) (hx : Bounded (arg m c)) (t : Fin cfg0.N) (u : Fin 16) (k : Fin 1024) :
    row (iblk m c 0 t) u (ix3 (0 : Fin 1) (0 : Fin 1) k) = L (Xw (arg m c) (16 * t.val + u.val) k.val) := by
  have hN : cfg0.N = 128 := N_0
  have hT : 16 * t.val + u.val < 2048 := by have := t.isLt; have := u.isLt; omega
  rw [block_y m c t u k ⟨_, hT⟩ rfl]
  by_cases h : Inside (16 * t.val + u.val) k.val
  · rw [L_Xw hx h, skewed_in _ _ _ h.1 h.2.1 h.2.2]
    obtain ⟨h1, h2, h3⟩ := h
    unfold entry
    rw [dif_pos ⟨by omega, by omega⟩]
    unfold extractStridedSlice
    congr 1
    funext a
    apply Fin.ext
    match a with
    | ⟨0, _⟩ => show 0 + k.val = k.val; omega
    | ⟨1, _⟩ => show 0 + (16 * t.val + u.val - k.val) = 16 * t.val + u.val - k.val; omega
  · rw [L_Xw_out h, skewed_out _ ⟨_, hT⟩ k h]
    exact low_eq _

theorem load_z (c : Dev nD) (hx : Bounded (arg m c)) (t : Fin cfg0.N) (u : Fin 16) (k : Fin 1024) :
    row (iblk m c 1 t) u (ix3 (0 : Fin 1) (0 : Fin 1) k) = L (Zw (arg m c) (16 * t.val + u.val) k.val) := by
  have hN : cfg0.N = 128 := N_0
  have hT : 16 * t.val + u.val < 2048 := by have := t.isLt; have := u.isLt; omega
  rw [block_z m c t u k ⟨_, hT⟩ rfl]
  by_cases h : Inside (16 * t.val + u.val) k.val
  · rw [L_Zw hx h, skewed_in _ _ _ h.1 h.2.1 h.2.2]
    obtain ⟨h1, h2, h3⟩ := h
    unfold entry
    rw [dif_pos ⟨by omega, by omega⟩]
    unfold extractStridedSlice
    congr 1
    funext a
    apply Fin.ext
    match a with
    | ⟨0, _⟩ => show 1 + k.val = k.val + 1; omega
    | ⟨1, _⟩ => show 1 + (16 * t.val + u.val - k.val) = 16 * t.val + u.val - k.val + 1; omega
  · rw [L_Zw_out h, skewed_out _ ⟨_, hT⟩ k h]
    exact low_eq _

/-- The carried rows after each point. -/
theorem inv_after (c : Dev nD) (hx : Bounded (arg m c)) : ∀ (n : ℕ) (hn : n < cfg0.N),
    Inv (Xw (arg m c)) (Zw (arg m c)) (16 * n + 16) (after m c n hn)
  | 0, h => inv_steps (Xw_nonneg _) (Zw_nonneg _) (t := 16 * 0) (inv_init _ _) _ _ (load_y m c hx ⟨0, h⟩) (load_z m c hx ⟨0, h⟩)
  | n + 1, h => inv_steps (Xw_nonneg _) (Zw_nonneg _) (t := 16 * (n + 1)) (inv_after c hx n (Nat.lt_of_succ_lt h)) _ _
      (load_y m c hx ⟨n + 1, h⟩) (load_z m c hx ⟨n + 1, h⟩)

/-- The kernel's result. -/
theorem answer_eq (c : Dev nD) (hx : Bounded (arg m c)) : (answer m c : FVec Ideal S_ .f32) = fun _ => L (whole (arg m c)) := by
  have h := inv_after m c hx 127 lastN
  choose M σ hM hσ hm hs hMσ using h.ms
  funext (i : S_.Idx)
  unfold answer total
  rw [shapeCast_apply (t := S_) _ _ i (ix2 (0 : Fin 1) (0 : Fin 1)) (by
    have h1 : (S1x1.rowMajor (ix2 (0 : Fin 1) (0 : Fin 1))).val < 1 := (S1x1.rowMajor (ix2 (0 : Fin 1) (0 : Fin 1))).isLt
    have h2 : (S_.rowMajor i).val < 1 := (S_.rowMajor i).isLt
    exact (Nat.lt_one_iff.mp h1).trans (Nat.lt_one_iff.mp h2).symm)]
  rw [pay2_apply _ _ M σ hM hσ (fun k => (wide_apply _ k).trans (hm k)) (fun k => (wide_apply _ k).trans (hs k)), ← whole_eq]
  congr 1
  exact Finset.sum_congr rfl fun k _ => hMσ k

end Cert.KernelIdeal.Value

end
-- ==== Proof.RStep.lean ====
/- One trip of the reference's scan over the extended reals, slot by slot. -/
module

public import proofs.«01_k».proof.Proof.Gen.ReferenceIdeal.Run
public import proofs.«01_k».proof.Proof.LogDomain
public import Idealize.ShloMosaic.Lib.Pointwise
public import Idealize.ShloMosaic.Lib.DynamicIndex
public import Idealize.ShloMosaic.Lib.WordArith

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Soft

/-- Division by the temperature, which is 1. -/
theorem div_one (x : EReal) : Ideal.div x 1 = x := by
  have h := Ideal.div_coe one_ne_zero x
  rw [EReal.coe_one, one_div, inv_one, EReal.coe_one, mul_one] at h
  exact h

/-- The value that the reference subtracts before an exponential is always a real number. -/
theorem guarded (x : EReal) : ∃ g : ℝ, (if (FloatOps.absf (F := Ideal) (φ := .f32) x : EReal) < (⊤ : EReal) then x else 0) = (g : EReal) := by
  induction x with
  | bot => exact ⟨0, if_neg (by simp [FloatOps.absf])⟩
  | top => exact ⟨0, if_neg (by simp [FloatOps.absf])⟩
  | coe r =>
    by_cases h : (FloatOps.absf (F := Ideal) (φ := .f32) (r : EReal) : EReal) < (⊤ : EReal)
    · exact ⟨r, if_pos h⟩
    · exact ⟨0, if_neg h⟩

variable (V : Valuation τ sig (Elt Ideal))

/-- The buffers of the scan, by what they hold. -/
abbrev scores : FVec Ideal S2045x1023 .f32 := V (Proc.devRef .tc main_v22_0)
abbrev parity : IVec S2045 32 := V (Proc.devRef .tc main_v22_1)
abbrev penR : FVec Ideal S3 .f32 := V (Proc.devRef .tc main_v22_2)
abbrev penD : FVec Ideal S3 .f32 := V (Proc.devRef .tc main_v22_3)
abbrev counter : IVec S_ 32 := V (Proc.devRef .tc main_v22_4)
abbrev carry : FVec Ideal S2x1023x3 .f32 := V (Proc.devRef .tc main_v22_5)
abbrev found : FVec Ideal S2045x1023x3 .f32 := V (Proc.devRef .tc main_v22_6)

theorem real88 (j : Fin 1023) : ∃ g : ℝ, (res_main_while0b_v88 V : FVec Ideal S1023 .f32) (ix1 j) = (g : EReal) := by
  unfold res_main_while0b_v88
  pointwise []
  rw [bits_high]
  exact guarded _

theorem real105 (j : Fin 1023) : ∃ g : ℝ, (res_main_while0b_v105 V : FVec Ideal S1023 .f32) (ix1 j) = (g : EReal) := by
  unfold res_main_while0b_v105
  pointwise []
  rw [bits_high]
  exact guarded _

theorem real122 (j : Fin 1023) : ∃ g : ℝ, (res_main_while0b_v122 V : FVec Ideal S1023 .f32) (ix1 j) = (g : EReal) := by
  unfold res_main_while0b_v122
  pointwise []
  rw [bits_high]
  exact guarded _

/-- Where a gap to the right reads the anti-diagonal before. -/
def fromRight (S : FVec Ideal S2x1023x3 .f32) (t : ℕ) (j : Fin 1023) (c : Fin 3) : EReal :=
  if t % 2 = 0 then (if h : 1 ≤ j.val then S (ix3 1 ⟨j.val - 1, by omega⟩ c) else ⊥) else S (ix3 1 j c)

/-- Where a gap down reads the anti-diagonal before. -/
def fromDown (S : FVec Ideal S2x1023x3 .f32) (t : ℕ) (j : Fin 1023) (c : Fin 3) : EReal :=
  if t % 2 = 0 then S (ix3 1 j c) else (if h : j.val < 1022 then S (ix3 1 ⟨1 + j.val, by omega⟩ c) else ⊥)

variable {V} {t : ℕ} (ht : t < 2045) (hc : counter V = fun _ => BitVec.ofNat 32 t)

include ht hc in
theorem at_counter (i : S_.Idx) : (counter V i).toInt = (t : ℤ) := by
  rw [hc]
  exact WordArith.toInt_ofNat_small t (by omega)

theorem slices_row (ht : t < 2045) : S2045x1023.Slices ![t, 0] S1x1023 := ⟨rfl, fun a => by
  match a with
  | ⟨0, _⟩ => show t + 1 ≤ 2045; omega
  | ⟨1, _⟩ => show 0 + 1023 ≤ 1023; omega⟩

theorem slices_word (ht : t < 2045) : S2045.Slices ![t] S1 := ⟨rfl, fun a => by
  match a with
  | ⟨0, _⟩ => show t + 1 ≤ 2045; omega⟩

include ht hc in
theorem row_slice :
    Host.dynamicSlice S1x1023 (V (Proc.devRef .tc main_v22_0)) (fun k => (((![V (Proc.devRef .tc main_v22_4), constantI S_ 32 0#32] : Fin 2 → (⟨S_, .i32⟩ : BufTy).Contents (Elt Ideal))) k (Shape.Idx.first h_S_)).toInt) sliceFits_S2045x1023_S1x1023
      = extractStridedSlice S1x1023 ![t, 0] (scores V) (slices_row ht) :=
  Host.dynamicSlice_eq_extractStridedSlice _ _ _ _ _ _ fun a => by
    match a with
    | ⟨0, _⟩ => exact at_counter ht hc _
    | ⟨1, _⟩ => rfl

include ht hc in
theorem word_slice :
    Host.dynamicSlice S1 (V (Proc.devRef .tc main_v22_1)) (fun k => (((![V (Proc.devRef .tc main_v22_4)] : Fin 1 → (⟨S_, .i32⟩ : BufTy).Contents (Elt Ideal))) k (Shape.Idx.first h_S_)).toInt) sliceFits_S2045_S1
      = extractStridedSlice S1 ![t] (parity V) (slices_word ht) :=
  Host.dynamicSlice_eq_extractStridedSlice _ _ _ _ _ _ fun a => by
    match a with
    | ⟨0, _⟩ => exact at_counter ht hc _

include ht hc in
theorem align_apply (j : Fin 1023) (c : Fin 4) :
    (res_main_while0b_v82 V : FVec Ideal S1023x4 .f32) (ix2 j c)
      = (if h : c.val < 3 then carry V (ix3 0 j ⟨c.val, h⟩) else 0) + scores V (ix2 ⟨t, ht⟩ j) := by
  unfold res_main_while0b_v82
  rw [row_slice ht hc]
  pointwise []
  refine (div_one _).trans ?_
  have e0 : (FloatOps.sitofp (F := Ideal) FTy.f32 (0#32) : EReal) = 0 := by simp [FloatOps.sitofp]
  rw [e0]

include ht hc in
/-- The parity word read at a trip. -/
theorem parity_apply (i : S_.Idx) : (res_main_while0b_v57 V : IVec S_ 32) i = parity V (ix1 ⟨t, ht⟩) := by
  unfold res_main_while0b_v57
  rw [word_slice ht hc]
  rw [shapeCast_apply (t := S_) _ _ i (ix1 (0 : Fin 1)) (by
    have h1 : (S1.rowMajor (ix1 (0 : Fin 1))).val < 1 := (S1.rowMajor (ix1 (0 : Fin 1))).isLt
    have h2 : (S_.rowMajor i).val < 1 := (S_.rowMajor i).isLt
    exact (Nat.lt_one_iff.mp h1).trans (Nat.lt_one_iff.mp h2).symm)]
  show parity V _ = parity V _
  congr 1
  funext a
  match a with
  | ⟨0, _⟩ => rfl

theorem prev_apply (j : Fin 1023) (c : Fin 3) : (res_main_while0b_v61 V : FVec Ideal S1023x3 .f32) (ix2 j c) = carry V (ix3 1 j c) := by
  unfold res_main_while0b_v61
  pointwise []

/-- The word read at trip `t`: 1 when `t` is even. -/
def turn (t : ℕ) : BitVec 32 := if t % 2 = 0 then 1#32 else 0#32

theorem turn_eq (t : ℕ) : (IntOp.cmpi .eq (turn t) 1#32 = 1) ↔ t % 2 = 0 := by
  unfold turn
  by_cases h : t % 2 = 0
  · rw [if_pos h]; simp [h, IntOp.cmpi]
  · rw [if_neg h]; simp [h, IntOp.cmpi]

variable (hp : parity V (ix1 ⟨t, ht⟩) = turn t)

include ht hc hp in
theorem turn_apply : (IntOp.cmpi .eq ((res_main_while0b_v57 V : IVec S_ 32) ix0) 1#32 = 1) ↔ t % 2 = 0 := by
  rw [parity_apply ht hc, hp, turn_eq]

include ht hc hp in
theorem right_apply (j : Fin 1023) (c : Fin 2) :
    (res_main_while0b_v99 V : FVec Ideal S1023x2 .f32) (ix2 j c)
      = fromRight (carry V) t j ⟨c.val, by omega⟩ + penR V (ix1 ⟨c.val, by omega⟩) := by
  unfold res_main_while0b_v99
  pointwise []
  refine (div_one _).trans ?_
  refine congrArg (· + penR V (ix1 ⟨c.val, by omega⟩)) ?_
  unfold fromRight Scalar.select
  simp only [turn_apply ht hc hp]
  by_cases h : t % 2 = 0
  · rw [if_pos h, if_pos h]
    by_cases h1 : 1 ≤ j.val
    · rw [dif_pos ⟨⟨h1, by omega⟩, by omega⟩, dif_pos h1]
      exact prev_apply _ _
    · rw [dif_neg fun q => h1 q.1.1, dif_neg h1]
      exact bits_low
  · rw [if_neg h, if_neg h]
    exact prev_apply _ _

include ht hc hp in
theorem down_apply (j : Fin 1023) (c : Fin 3) :
    (res_main_while0b_v116 V : FVec Ideal S1023x3 .f32) (ix2 j c) = fromDown (carry V) t j c + penD V (ix1 c) := by
  unfold res_main_while0b_v116
  pointwise []
  refine (div_one _).trans ?_
  refine congrArg (· + penD V (ix1 c)) ?_
  unfold fromDown Scalar.select
  simp only [turn_apply ht hc hp]
  by_cases h : t % 2 = 0
  · rw [if_pos h, if_pos h]
    exact prev_apply _ _
  · rw [if_neg h, if_neg h]
    by_cases h1 : j.val < 1022
    · rw [dif_pos h1, dif_pos h1]
      exact prev_apply _ _
    · rw [dif_neg h1, dif_neg h1]
      exact bits_low

/-- The new anti-diagonal's slots. -/
abbrev fresh (V : Valuation τ sig (Elt Ideal)) : FVec Ideal S1023x3 .f32 := res_main_while0b_v135 V

include ht hc in
/-- A slot's alignment component. -/
theorem fresh_a (j : Fin 1023) {X : ℝ} (hX : 0 ≤ X) (hy : scores V (ix2 ⟨t, ht⟩ j) = L X) (w : Fin 3 → ℝ) (hw : ∀ c, 0 ≤ w c)
    (h : ∀ c, carry V (ix3 0 j c) = L (w c)) : fresh V (ix2 j 0) = L (X * (1 + (w 0 + w 1 + w 2))) := by
  obtain ⟨g, hg⟩ := real88 V j
  unfold fresh res_main_while0b_v135
  pointwise []
  let v : Fin 4 → ℝ := ![w 0, w 1, w 2, 1]
  have hv : ∀ c, 0 ≤ v c := fun c => by
    match c with
    | 0 => exact hw 0
    | 1 => exact hw 1
    | 2 => exact hw 2
    | 3 => exact zero_le_one
  have e : ∀ c, (res_main_while0b_v82 V : FVec Ideal S1023x4 .f32) (ix2 j c) = L (v c * X) := fun c => by
    rw [align_apply ht hc, hy, ← L_add (hv c) hX]
    congr 1
    match c with
    | 0 => exact h 0
    | 1 => exact h 1
    | 2 => exact h 2
    | 3 => exact L_one.symm
  simp only [e, hg]
  rw [logsumexp Finset.univ (fun c => v c * X) (fun c => mul_nonneg (hv c) hX) g, Fin.sum_univ_four]
  congr 1
  show w 0 * X + w 1 * X + w 2 * X + 1 * X = _
  ring

include ht hc hp in
/-- A slot's component for a gap to the right. -/
theorem fresh_r (j : Fin 1023) (h0 : penR V (ix1 0) = L Co) (h1 : penR V (ix1 1) = L Ce) (w : Fin 3 → ℝ) (hw : ∀ c, 0 ≤ w c)
    (h : ∀ c, fromRight (carry V) t j c = L (w c)) : fresh V (ix2 j 1) = L (Co * w 0 + Ce * w 1) := by
  obtain ⟨g, hg⟩ := real105 V j
  unfold fresh res_main_while0b_v135
  pointwise []
  let v : Fin 2 → ℝ := ![Co * w 0, Ce * w 1]
  have hv : ∀ c, 0 ≤ v c := fun c => by
    match c with
    | 0 => exact mul_nonneg Co_pos.le (hw 0)
    | 1 => exact mul_nonneg Ce_pos.le (hw 1)
  have e : ∀ c, (res_main_while0b_v99 V : FVec Ideal S1023x2 .f32) (ix2 j c) = L (v c) := fun c => by
    rw [right_apply ht hc hp, h]
    match c with
    | 0 => exact (congrArg (L (w 0) + ·) h0).trans ((L_add (hw 0) Co_pos.le).trans (congrArg L (mul_comm _ _)))
    | 1 => exact (congrArg (L (w 1) + ·) h1).trans ((L_add (hw 1) Ce_pos.le).trans (congrArg L (mul_comm _ _)))
  simp only [e, hg]
  rw [logsumexp Finset.univ v hv g, Fin.sum_univ_two]
  rfl

include ht hc hp in
/-- A slot's component for a gap down. -/
theorem fresh_d (j : Fin 1023) (h0 : penD V (ix1 0) = L Co) (h1 : penD V (ix1 1) = L Co) (h2 : penD V (ix1 2) = L Ce)
    (w : Fin 3 → ℝ) (hw : ∀ c, 0 ≤ w c) (h : ∀ c, fromDown (carry V) t j c = L (w c)) :
    fresh V (ix2 j 2) = L (Co * (w 0 + w 1) + Ce * w 2) := by
  obtain ⟨g, hg⟩ := real122 V j
  unfold fresh res_main_while0b_v135
  pointwise []
  let v : Fin 3 → ℝ := ![Co * w 0, Co * w 1, Ce * w 2]
  have hv : ∀ c, 0 ≤ v c := fun c => by
    match c with
    | 0 => exact mul_nonneg Co_pos.le (hw 0)
    | 1 => exact mul_nonneg Co_pos.le (hw 1)
    | 2 => exact mul_nonneg Ce_pos.le (hw 2)
  have e : ∀ c, (res_main_while0b_v116 V : FVec Ideal S1023x3 .f32) (ix2 j c) = L (v c) := fun c => by
    rw [down_apply ht hc hp, h]
    match c with
    | 0 => exact (congrArg (L (w 0) + ·) h0).trans ((L_add (hw 0) Co_pos.le).trans (congrArg L (mul_comm _ _)))
    | 1 => exact (congrArg (L (w 1) + ·) h1).trans ((L_add (hw 1) Co_pos.le).trans (congrArg L (mul_comm _ _)))
    | 2 => exact (congrArg (L (w 2) + ·) h2).trans ((L_add (hw 2) Ce_pos.le).trans (congrArg L (mul_comm _ _)))
  simp only [e, hg]
  rw [logsumexp Finset.univ v hv g, Fin.sum_univ_three]
  congr 1
  show Co * w 0 + Co * w 1 + Ce * w 2 = _
  ring

theorem step_carry_old (V : Valuation τ sig (Elt Ideal)) (j : Fin 1023) (c : Fin 3) :
    carry (STEP V) (ix3 0 j c) = carry V (ix3 1 j c) := by
  rw [← prev_apply]
  show (STEP V (Proc.devRef .tc main_v22_5) : FVec Ideal S2x1023x3 .f32) (ix3 0 j c) = _
  rw [STEP_main_v22_5]
  unfold step_main_v22_5
  simp only [id_eq]
  pointwise []

theorem step_carry_new (V : Valuation τ sig (Elt Ideal)) (j : Fin 1023) (c : Fin 3) :
    carry (STEP V) (ix3 1 j c) = fresh V (ix2 j c) := by
  show (STEP V (Proc.devRef .tc main_v22_5) : FVec Ideal S2x1023x3 .f32) (ix3 1 j c) = _
  rw [STEP_main_v22_5]
  unfold step_main_v22_5
  simp only [id_eq]
  pointwise []

theorem slices_found (ht : t < 2045) : S2045x1023x3.Slices ![t, 0, 0] S1x1023x3 := ⟨rfl, fun a => by
  match a with
  | ⟨0, _⟩ => show t + 1 ≤ 2045; omega
  | ⟨1, _⟩ => show 0 + 1023 ≤ 1023; omega
  | ⟨2, _⟩ => show 0 + 3 ≤ 3; omega⟩

include ht hc in
theorem step_found (s : Fin 2045) (j : Fin 1023) (c : Fin 3) :
    found (STEP V) (ix3 s j c) = if s.val = t then fresh V (ix2 j c) else found V (ix3 s j c) := by
  show (STEP V (Proc.devRef .tc main_v22_6) : FVec Ideal S2045x1023x3 .f32) (ix3 s j c) = _
  rw [STEP_main_v22_6]
  unfold step_main_v22_6
  rw [Host.dynamicUpdateSlice_eq_updateSlice _ _ _ _ ![t, 0, 0] (fun a => by
    match a with
    | ⟨0, _⟩ =>
      have e := at_counter ht hc (Shape.Idx.first h_S_)
      show (min (max (counter V (Shape.Idx.first h_S_)).toInt 0) ((2045 - 1 : ℕ) : ℤ)).toNat = t
      rw [e]; omega
    | ⟨1, _⟩ => rfl
    | ⟨2, _⟩ => rfl) (slices_found ht)]
  show updateSlice _ _ _ _ (ix3 s j c) = _
  rw [updateSlice_apply]
  by_cases h : s.val = t
  · rw [if_pos h, dif_pos (fun a => by
      match a with
      | ⟨0, _⟩ => exact ⟨(show t ≤ s.val by omega), (show s.val < t + 1 by omega)⟩
      | ⟨1, _⟩ => exact ⟨Nat.zero_le _, (show j.val < 0 + 1023 by omega)⟩
      | ⟨2, _⟩ => exact ⟨Nat.zero_le _, (show c.val < 0 + 3 by omega)⟩)]
    have e : (broadcastInDim S1x1023x3 ![1, 2] bcast_S1023x3_S1x1023x3_1_2 (fresh V) : FVec Ideal S1x1023x3 .f32) (ix3 0 j c)
        = fresh V (ix2 j c) := by
      pointwise []
    refine (congrArg (broadcastInDim S1x1023x3 ![1, 2] bcast_S1023x3_S1x1023x3_1_2 (fresh V) : FVec Ideal S1x1023x3 .f32) ?_).trans e
    funext a
    apply Fin.ext
    match a with
    | ⟨0, _⟩ => show s.val - t = 0; omega
    | ⟨1, _⟩ => rfl
    | ⟨2, _⟩ => rfl
  · rw [if_neg h, dif_neg (fun q => by
      have h0 := q 0
      have h1 : t ≤ s.val ∧ s.val < t + 1 := h0
      omega)]

include ht hc in
theorem step_counter : counter (STEP V) = fun _ => BitVec.ofNat 32 (t + 1) := by
  show (STEP V (Proc.devRef .tc main_v22_4) : IVec S_ 32) = _
  rw [STEP_main_v22_4]
  unfold step_main_v22_4
  have e : (V (Proc.devRef .tc main_v22_4) : IVec S_ 32) = fun _ => BitVec.ofNat 32 t := hc
  rw [e]
  funext (i : S_.Idx)
  show BitVec.ofNat 32 t + 1#32 = _
  rw [BitVec.ofNat_add]
-- ==== Proof.RInv.lean ====
/- What the reference's scan keeps: slot `j` of an anti-diagonal holds the cell of one row of the matrix. -/
module

public import proofs.«01_k».proof.Proof.RStep

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Soft

/-- A cell's three components in the reference's order. -/
def comp (w : Cell) : Fin 3 → ℝ := ![w.a, w.r, w.d]

theorem comp_nonneg {w : Cell} (h : w.Nonneg) : ∀ c, 0 ≤ comp w c := fun c => by
  match c with
  | 0 => exact h.1
  | 1 => exact h.2.1
  | 2 => exact h.2.2

theorem comp_zero (c : Fin 3) : L (comp Cell.zero c) = ⊥ := by
  match c with
  | 0 => exact L_zero
  | 1 => exact L_zero
  | 2 => exact L_zero

/-- The slots `f` hold the cells `u` of anti-diagonal `e - 2`: slot `j` row `510 + e / 2 - j`, and `⊥` where that is negative. Slots
    whose row or column lies past the matrix's edge are left open; no slot within the edge reads them. -/
structure Held (e : ℕ) (u : ℕ → Cell) (f : Fin 1023 → Fin 3 → EReal) : Prop where
  past : ∀ j : Fin 1023, 510 + e / 2 < j.val → ∀ c, f j c = ⊥
  here : ∀ (j : Fin 1023) (p : ℕ), p + j.val = 510 + e / 2 → p < 1023 → e < 1025 + p → ∀ c, f j c = L (comp (u p) c)

theorem held_bot (e : ℕ) : Held e (fun _ => Cell.zero) (fun _ _ => ⊥) where
  past _ _ _ := rfl
  here _ _ _ _ _ c := (comp_zero c).symm

/-- The slot of the row before, on the anti-diagonal `e - 2`, from one place further. -/
theorem Held.before {e : ℕ} {u : ℕ → Cell} {f : Fin 1023 → Fin 3 → EReal} (h : Held e u f) (j : Fin 1023) (p : ℕ)
    (hj : p + j.val = 511 + e / 2) (hp : p < 1023) (he : e < 1024 + p) (c : Fin 3) : f j c = L (comp (before u p) c) := by
  unfold Soft.before
  by_cases h0 : p = 0
  · rw [if_pos h0, comp_zero]
    exact h.past j (by omega) c
  · rw [if_neg h0]
    exact h.here j (p - 1) (by omega) (by omega) (by omega) c

/-- What the scan has of the problem: the rows of scores, the penalties, the parities, the trip's number. -/
structure Setting (X : ℕ → ℕ → ℝ) (V : Valuation τ sig (Elt Ideal)) : Prop where
  nonneg : ∀ t k, 0 ≤ X t k
  late : ∀ t k, t < k → X t k = 0
  past : ∀ (t : Fin 2045) (j : Fin 1023), 511 + t.val / 2 < j.val → scores V (ix2 t j) = ⊥
  here : ∀ (t : Fin 2045) (j : Fin 1023) (p : ℕ), p + j.val = 511 + t.val / 2 → p < 1023 → t.val < 1023 + p →
    scores V (ix2 t j) = L (X t.val p)
  turns : ∀ t : Fin 2045, parity V (ix1 t) = turn t.val
  r0 : penR V (ix1 0) = L Co
  r1 : penR V (ix1 1) = L Ce
  d0 : penD V (ix1 0) = L Co
  d1 : penD V (ix1 1) = L Co
  d2 : penD V (ix1 2) = L Ce

/-- The scan before trip `t`. -/
structure Before (X : ℕ → ℕ → ℝ) (t : ℕ) (V : Valuation τ sig (Elt Ideal)) : Prop where
  set : Setting X V
  count : counter V = fun _ => BitVec.ofNat 32 t
  last : Held (t + 1) (lanes X t).2 (fun j c => carry V (ix3 1 j c))
  prior : Held t (lanes X t).1 (fun j c => carry V (ix3 0 j c))
  rows : ∀ s : Fin 2045, s.val < t → ∀ (j : Fin 1023) (p : ℕ), p + j.val = 511 + s.val / 2 → p < 1023 → s.val < 1023 + p →
    ∀ c, found V (ix3 s j c) = L (comp (cell X s.val p) c)

theorem Setting.step {X : ℕ → ℕ → ℝ} {V : Valuation τ sig (Elt Ideal)} (h : Setting X V) : Setting X (STEP V) where
  nonneg := h.nonneg
  late := h.late
  past t j q := by
    have e : scores (STEP V) = scores V := STEP_main_v22_0 V
    rw [e]; exact h.past t j q
  here t j p a b c := by
    have e : scores (STEP V) = scores V := STEP_main_v22_0 V
    rw [e]; exact h.here t j p a b c
  turns t := by
    have e : parity (STEP V) = parity V := STEP_main_v22_1 V
    rw [e]; exact h.turns t
  r0 := (congrFun (STEP_main_v22_2 V : penR (STEP V) = penR V) _).trans h.r0
  r1 := (congrFun (STEP_main_v22_2 V : penR (STEP V) = penR V) _).trans h.r1
  d0 := (congrFun (STEP_main_v22_3 V : penD (STEP V) = penD V) _).trans h.d0
  d1 := (congrFun (STEP_main_v22_3 V : penD (STEP V) = penD V) _).trans h.d1
  d2 := (congrFun (STEP_main_v22_3 V : penD (STEP V) = penD V) _).trans h.d2

section Trip

variable {X : ℕ → ℕ → ℝ} {t : ℕ} {V : Valuation τ sig (Elt Ideal)} (h : Before X t V) (ht : t < 2045)

include h ht

/-- The row above the same column's slot, as the trip reads it for a gap to the right. -/
theorem read_right (j : Fin 1023) (p : ℕ) (hj : p + j.val = 511 + t / 2) (hp : p < 1023) (hq : t < 1023 + p) (c : Fin 3) :
    fromRight (carry V) t j c = L (comp ((lanes X t).2 p) c) := by
  unfold fromRight
  by_cases e : t % 2 = 0
  · rw [if_pos e]
    by_cases h1 : 1 ≤ j.val
    · rw [dif_pos h1]
      exact h.last.here ⟨j.val - 1, by omega⟩ p (by show p + (j.val - 1) = _; omega) hp (by omega) c
    · rw [dif_neg h1, lanes_zero h.set.late t p (by omega), comp_zero]
  · rw [if_neg e]
    exact h.last.here j p (by omega) hp (by omega) c

theorem read_down (j : Fin 1023) (p : ℕ) (hj : p + j.val = 511 + t / 2) (hp : p < 1023) (hq : t < 1023 + p) (c : Fin 3) :
    fromDown (carry V) t j c = L (comp (before (lanes X t).2 p) c) := by
  unfold fromDown
  by_cases e : t % 2 = 0
  · rw [if_pos e]
    exact h.last.before j p (by omega) hp (by omega) c
  · rw [if_neg e, dif_pos (by omega)]
    exact h.last.before ⟨1 + j.val, by omega⟩ p (by show p + (1 + j.val) = _; omega) hp (by omega) c

theorem read_right_past (j : Fin 1023) (hj : 511 + t / 2 < j.val) (c : Fin 3) : fromRight (carry V) t j c = ⊥ := by
  unfold fromRight
  by_cases e : t % 2 = 0
  · rw [if_pos e, dif_pos (by omega)]
    exact h.last.past ⟨j.val - 1, by omega⟩ (by show _ < j.val - 1; omega) c
  · rw [if_neg e]
    exact h.last.past j (by omega) c

theorem read_down_past (j : Fin 1023) (hj : 511 + t / 2 < j.val) (c : Fin 3) : fromDown (carry V) t j c = ⊥ := by
  unfold fromDown
  by_cases e : t % 2 = 0
  · rw [if_pos e]
    exact h.last.past j (by omega) c
  · rw [if_neg e]
    by_cases h1 : j.val < 1022
    · rw [dif_pos h1]
      exact h.last.past ⟨1 + j.val, by omega⟩ (by show _ < 1 + j.val; omega) c
    · rw [dif_neg h1]

theorem fresh_here (j : Fin 1023) (p : ℕ) (hj : p + j.val = 511 + t / 2) (hp : p < 1023) (hq : t < 1023 + p) (c : Fin 3) :
    fresh V (ix2 j c) = L (comp (cell X t p) c) := by
  have hl := lanes_nonneg h.set.nonneg t
  have turned := h.set.turns ⟨t, ht⟩
  match c with
  | 0 =>
    refine (fresh_a ht h.count j (h.set.nonneg t p) (h.set.here ⟨t, ht⟩ j p hj hp hq) (comp (before (lanes X t).1 p))
      (comp_nonneg (before_nonneg hl.1 p)) (fun c => h.prior.before j p hj hp (by omega) c)).trans ?_
    rfl
  | 1 =>
    exact fresh_r ht h.count turned j h.set.r0 h.set.r1 (comp ((lanes X t).2 p)) (comp_nonneg (hl.2 p))
      (fun c => read_right h ht j p hj hp hq c)
  | 2 =>
    exact fresh_d ht h.count turned j h.set.d0 h.set.d1 h.set.d2 (comp (before (lanes X t).2 p)) (comp_nonneg (before_nonneg hl.2 p))
      (fun c => read_down h ht j p hj hp hq c)

theorem fresh_past (j : Fin 1023) (hj : 511 + t / 2 < j.val) (c : Fin 3) : fresh V (ix2 j c) = ⊥ := by
  have turned := h.set.turns ⟨t, ht⟩
  have z : ∀ c : Fin 3, (0 : ℝ) ≤ (fun _ : Fin 3 => (0 : ℝ)) c := fun _ => le_rfl
  match c with
  | 0 =>
    refine (fresh_a ht h.count j le_rfl ((h.set.past ⟨t, ht⟩ j hj).trans L_zero.symm) (fun _ => 0) z
      (fun c => (h.prior.past j (by omega) c).trans L_zero.symm)).trans ?_
    rw [zero_mul, L_zero]
  | 1 =>
    refine (fresh_r ht h.count turned j h.set.r0 h.set.r1 (fun _ => 0) z
      (fun c => (read_right_past h ht j hj c).trans L_zero.symm)).trans ?_
    simp only [mul_zero, add_zero, L_zero]
  | 2 =>
    refine (fresh_d ht h.count turned j h.set.d0 h.set.d1 h.set.d2 (fun _ => 0) z
      (fun c => (read_down_past h ht j hj c).trans L_zero.symm)).trans ?_
    simp only [mul_zero, add_zero, L_zero]

/-- One trip. -/
theorem Before.step : Before X (t + 1) (STEP V) where
  set := h.set.step
  count := step_counter ht h.count
  last :=
    { past := fun j hj c => (step_carry_new V j c).trans (fresh_past h ht j (by omega) c)
      here := fun j p hj hp hq c => (step_carry_new V j c).trans (fresh_here h ht j p (by omega) hp (by omega) c) }
  prior :=
    { past := fun j hj c => (step_carry_old V j c).trans (h.last.past j hj c)
      here := fun j p hj hp hq c => (step_carry_old V j c).trans (h.last.here j p hj hp hq c) }
  rows s hs j p hj hp hq c := by
    rw [step_found ht h.count]
    by_cases e : s.val = t
    · rw [if_pos e]
      subst e
      exact fresh_here h ht j p hj hp hq c
    · rw [if_neg e]
      exact h.rows s (by omega) j p hj hp hq c

end Trip

theorem Before.iterate {X : ℕ → ℕ → ℝ} {V : Valuation τ sig (Elt Ideal)} (h : Before X 0 V) : ∀ t : ℕ, t ≤ 2045 → Before X t (STEP^[t] V)
  | 0, _ => h
  | t + 1, ht => by
    rw [Function.iterate_succ_apply']
    exact (Before.iterate h t (by omega)).step (by omega)
-- ==== Proof.REntry.lean ====
/- The reference's buffers where its scan begins. -/
module

public import proofs.«01_k».proof.Proof.RInv
public import proofs.«01_k».proof.Proof.Weights
public import Idealize.ShloMosaic.Lib.Routing.OpsSet
public import Idealize.ShloMosaic.Lib.Routing.OpsPair
public import Idealize.ShloMosaic.Lib.Routing.Words

@[expose] public section

set_option maxRecDepth 16384

noncomputable section

namespace Cert.ReferenceIdeal.Value

open Idealize.ShloMosaic Idealize.ShloMosaic.TcCoe Idealize.SL.Sem
open Idealize.ShloMosaic.StableHlo Idealize.ShloMosaic.Tactic
open Cert.ReferenceIdeal Cert.ReferenceIdeal.Gen Cert.Soft

variable (m : (ℓ : Loc nD τ sig) → Buf (Elt Ideal) ℓ) (c : Dev nD)

/-- The scores given. -/
def given : Scores := (m ((c.tc : Thread nD τ).loc main_arg0) : FVec Ideal S1024x1024 .f32)

abbrev start : Valuation τ sig (Elt Ideal) := entryContents preI m c

theorem start_penR : penR (start m c) = fun i => FloatOps.ofBits .f32 (lit0 (S3.rowMajor i)) := by
  show entryContents preI m c (Proc.devRef .tc main_v22_2) = _
  simp only [entryContents, afterL_cons, afterL_nil]
  after_reads_simp
  rfl

theorem start_penD : penD (start m c) = fun i => FloatOps.ofBits .f32 (lit1 (S3.rowMajor i)) := by
  show entryContents preI m c (Proc.devRef .tc main_v22_3) = _
  simp only [entryContents, afterL_cons, afterL_nil]
  after_reads_simp
  rfl

theorem start_carry : carry (start m c) = broadcastInDim S2x1023x3 ![] bcast_S_S2x1023x3 (constant S_ .f32 0xFF800000#32) := by
  show entryContents preI m c (Proc.devRef .tc main_v22_5) = _
  simp only [entryContents, afterL_cons, afterL_nil]
  after_reads_simp
  rfl

/-- The row of the skewed layout, and the place in it, of each entry of the matrix. -/
def rowOf : IVec S1023x1023 32 := addi (iotaInDim S1023x1023 32 0) (iotaInDim S1023x1023 32 1)
def placeOf : IVec S1023x1023 32 :=
  Host.divui (subi (addi (iotaInDim S1023x1023 32 1) (broadcastInDim S1023x1023 ![] bcast_S_S1023x1023 (constantI S_ 32 1022#32)))
    (iotaInDim S1023x1023 32 0)) (broadcastInDim S1023x1023 ![] bcast_S_S1023x1023 (constantI S_ 32 2#32))

def glued (a b : IVec S1023x1023x1 32) : IVec S1023x1023x2 32 :=
  concatenate S1023x1023x2 2 [⟨S1023x1023x1, a⟩, ⟨S1023x1023x1, b⟩] concatenates_S1023x1023x1_S1023x1023x1_S1023x1023x2_d2

/-- Both, side by side. -/
def pairs : IVec S1023x1023x2 32 :=
  glued (broadcastInDim S1023x1023x1 ![0, 1] bcast_S1023x1023_S1023x1023x1_0_1 rowOf)
    (broadcastInDim S1023x1023x1 ![0, 1] bcast_S1023x1023_S1023x1023x1_0_1 placeOf)

theorem start_scores : scores (start m c)
    = Host.scatter scatter_S2045x1023_S1023x1023x2_S1023x1023_n_01_01_2 (fun _ b => b)
        (broadcastInDim S2045x1023 ![] bcast_S_S2045x1023 (constant S_ .f32 0xFF800000#32)) pairs
        (extractStridedSlice S1023x1023 ![0, 0] (given m c) slices_S1024x1024_S1023x1023_0_0) := by
  show entryContents preI m c (Proc.devRef .tc main_v22_0) = _
  simp only [entryContents, afterL_cons, afterL_nil]
  after_reads_simp
  refine (id_eq _).trans ?_
  congr 1

def two : IVec S_ 32 := select (cmpi .eq (constantI S_ 32 2#32) (constantI S_ 32 0#32)) (constantI S_ 32 1#32) (constantI S_ 32 2#32)
def rest : IVec S2045 32 :=
  Host.remsi (addi (iotaInDim S2045 32 0) (broadcastInDim S2045 ![] bcast_S_S2045 (constantI S_ 32 1#32)))
    (broadcastInDim S2045 ![] bcast_S_S2045 two)

theorem start_parity : parity (start m c)
    = select (andi (cmpi .ne (cmpi .slt rest (broadcastInDim S2045 ![] bcast_S_S2045 (constantI S_ 32 0#32)))
          (broadcastInDim S2045 ![] bcast_S_S2045 (cmpi .slt two (constantI S_ 32 0#32))))
        (cmpi .ne rest (broadcastInDim S2045 ![] bcast_S_S2045 (constantI S_ 32 0#32))))
        (addi rest (broadcastInDim S2045 ![] bcast_S_S2045 two)) rest := by
  show entryContents preI m c (Proc.devRef .tc main_v22_1) = _
  simp only [entryContents, afterL_cons, afterL_nil]
  after_reads_simp
  rfl

theorem two_eq : two ix0 = 2#32 := by
  unfold two
  pointwise []
  decide

theorem rest_apply (t : Fin 2045) : rest (ix1 t) = turn t.val := by
  unfold rest
  pointwise []
  rw [two_eq]
  have e : IntOp.addi (BitVec.ofNat 32 t.val) 1#32 = BitVec.ofNat 32 (t.val + 1) := (BitVec.ofNat_add _ _).symm
  have ht := t.isLt
  rw [e, show (2#32 : BitVec 32) = BitVec.ofNat 32 2 from rfl, Routing.remsi_word _ (by omega) (by omega) (by omega)]
  unfold turn
  by_cases h : t.val % 2 = 0
  · rw [if_pos h, show (t.val + 1) % 2 = 1 by omega]
  · rw [if_neg h, show (t.val + 1) % 2 = 0 by omega]

theorem turn_word (t : ℕ) : Scalar.select
      (IntOp.andi (IntOp.cmpi .ne (IntOp.cmpi .slt (turn t) 0#32) (IntOp.cmpi .slt 2#32 0#32)) (IntOp.cmpi .ne (turn t) 0#32))
      (IntOp.addi (turn t) 2#32) (turn t) = turn t := by
  unfold turn
  by_cases h : t % 2 = 0
  · rw [if_pos h]; decide
  · rw [if_neg h]; decide

theorem parity_start (t : Fin 2045) : parity (start m c) (ix1 t) = turn t.val := by
  rw [start_parity]
  pointwise []
  rw [rest_apply, two_eq]
  exact turn_word _

theorem rowOf_word (p q : Fin 1023) : rowOf (ix2 p q) = BitVec.ofNat 32 (p.val + q.val) := by
  unfold rowOf
  pointwise []
  exact (BitVec.ofNat_add _ _).symm

theorem placeOf_word (p q : Fin 1023) : placeOf (ix2 p q) = BitVec.ofNat 32 ((q.val + 1022 - p.val) / 2) := by
  have hp := p.isLt
  have hq := q.isLt
  unfold placeOf
  pointwise []
  have e : IntOp.subi (IntOp.addi (BitVec.ofNat 32 q.val) 1022#32) (BitVec.ofNat 32 p.val) = BitVec.ofNat 32 (q.val + 1022 - p.val) := by
    apply BitVec.eq_of_toNat_eq
    show ((BitVec.ofNat 32 q.val + 1022#32) - BitVec.ofNat 32 p.val).toNat = _
    simp only [BitVec.toNat_sub, BitVec.toNat_add, BitVec.toNat_ofNat]
    omega
  rw [e]
  unfold IntOp.divui
  rw [if_neg (by decide)]
  apply BitVec.eq_of_toNat_eq
  rw [BitVec.toNat_udiv, BitVec.toNat_ofNat, BitVec.toNat_ofNat, Nat.mod_eq_of_lt (by omega), Nat.mod_eq_of_lt (by omega)]
  rw [BitVec.toNat_ofNat, Nat.mod_eq_of_lt (by omega)]

theorem pairs_row (p q : Fin 1023) : (pairs (ix3 p q 0)).toInt = ((p.val + q.val : ℕ) : ℤ) := by
  have e : pairs (ix3 p q 0) = rowOf (ix2 p q) := by
    unfold pairs glued
    pointwise []
  rw [e, rowOf_word]
  exact WordArith.toInt_ofNat_small _ (by omega)

theorem pairs_place (p q : Fin 1023) : (pairs (ix3 p q 1)).toInt = (((q.val + 1022 - p.val) / 2 : ℕ) : ℤ) := by
  have e : pairs (ix3 p q 1) = placeOf (ix2 p q) := by
    unfold pairs glued
    pointwise []
  rw [e, placeOf_word]
  exact WordArith.toInt_ofNat_small _ (by omega)

/-- Where an entry's score lands. -/
theorem lands_at (p q : Fin 1023) (t : Fin 2045) (j : Fin 1023) :
    scatter_S2045x1023_S1023x1023x2_S1023x1023_n_01_01_2.resultIdx? (ix2 p q) pairs = some (ix2 t j)
      ↔ p.val + q.val = t.val ∧ (q.val + 1022 - p.val) / 2 = j.val := by
  have h := Routing.scatter_lands2 (w := 32) scatter_S2045x1023_S1023x1023x2_S1023x1023_n_01_01_2 rfl rfl rfl pairs p q t j
  rw [← ix2_eq_valueIdx, ← ix2_eq_valueIdx, ← ix3_eq_valueIdx, ← ix3_eq_valueIdx, pairs_row, pairs_place] at h
  refine h.trans ?_
  constructor
  · rintro ⟨h1, h2⟩; exact ⟨by exact_mod_cast h1, by exact_mod_cast h2⟩
  · rintro ⟨h1, h2⟩; exact ⟨by exact_mod_cast h1, by exact_mod_cast h2⟩

theorem lands (k : S1023x1023.Idx) (t : Fin 2045) (j : Fin 1023) :
    scatter_S2045x1023_S1023x1023x2_S1023x1023_n_01_01_2.resultIdx? k pairs = some (ix2 t j)
      ↔ (k 0).val + (k 1).val = t.val ∧ ((k 1).val + 1022 - (k 0).val) / 2 = j.val := by
  have ek : k = ix2 (k 0) (k 1) := by
    funext a
    match a with
    | ⟨0, _⟩ => rfl
    | ⟨1, _⟩ => rfl
  have h := lands_at (k 0) (k 1) t j
  exact (iff_of_eq (congrArg (fun i => scatter_S2045x1023_S1023x1023x2_S1023x1023_n_01_01_2.resultIdx? i pairs = some (ix2 t j)) ek)).trans h

theorem scores_hit (t : Fin 2045) (j : Fin 1023) (p q : Fin 1023) (h1 : p.val + q.val = t.val) (h2 : p.val + j.val = 511 + t.val / 2) :
    scores (start m c) (ix2 t j) = entry (given m c) p.val q.val := by
  rw [start_scores]
  refine Routing.scatter_set_hit _ _ _ _ _ _ (fun k hk => ?_) (ix2 p q) ((lands _ t j).2 ⟨h1, by show (q.val + 1022 - p.val) / 2 = _; omega⟩)
  obtain ⟨e1, e2⟩ := (lands k t j).1 hk
  have b0 : (k 0).val < 1023 := (k 0).isLt
  have b1 : (k 1).val < 1023 := (k 1).isLt
  have a0 : (k 0).val = p.val := by omega
  have a1 : (k 1).val = q.val := by omega
  unfold entry extractStridedSlice
  rw [dif_pos ⟨by omega, by omega⟩]
  congr 1
  funext a
  apply Fin.ext
  match a with
  | ⟨0, _⟩ => show 0 + (k 0).val = p.val; omega
  | ⟨1, _⟩ => show 0 + (k 1).val = q.val; omega

theorem scores_miss (t : Fin 2045) (j : Fin 1023)
    (h : ∀ p q : Fin 1023, p.val + q.val = t.val → p.val + j.val = 511 + t.val / 2 → False) : scores (start m c) (ix2 t j) = ⊥ := by
  rw [start_scores]
  refine (Routing.scatter_set_miss _ _ _ _ _ fun k hk => ?_).trans bits_low
  obtain ⟨e1, e2⟩ := (lands k t j).1 hk
  have b0 : (k 0).val < 1023 := (k 0).isLt
  have b1 : (k 1).val < 1023 := (k 1).isLt
  exact h ⟨(k 0).val, b0⟩ ⟨(k 1).val, b1⟩ e1 (by show (k 0).val + j.val = _; omega)

theorem carry_start (i : S2x1023x3.Idx) : carry (start m c) i = ⊥ := by
  rw [start_carry]
  exact bits_low

theorem before_start (hx : Bounded (given m c)) : Before (Xw (given m c)) 0 (start m c) where
  set :=
    { nonneg := Xw_nonneg _
      late := Xw_zero _
      past := fun t j hj => scores_miss m c t j fun p q _ h => by omega
      here := fun t j p hj hp hq => by
        by_cases hi : p ≤ t.val
        · have hI : Inside t.val p := ⟨hp, hi, by omega⟩
          rw [L_Xw hx hI]
          exact scores_hit m c t j ⟨p, hp⟩ ⟨t.val - p, by omega⟩ (by show p + (t.val - p) = _; omega) hj
        · rw [L_Xw_out fun h => hi h.2.1]
          refine scores_miss m c t j fun p' q' h1 h2 => ?_
          omega
      turns := parity_start m c
      r0 := (congrFun (start_penR m c) _).trans (bits_open.trans L_open)
      r1 := (congrFun (start_penR m c) _).trans (bits_extend.trans L_extend)
      d0 := (congrFun (start_penD m c) _).trans (bits_open.trans L_open)
      d1 := (congrFun (start_penD m c) _).trans (bits_open.trans L_open)
      d2 := (congrFun (start_penD m c) _).trans (bits_extend.trans L_extend) }
  count := ctr_entry m c
  last := by
    have e : (fun j c' => carry (start m c) (ix3 1 j c')) = fun (_ : Fin 1023) (_ : Fin 3) => (⊥ : EReal) := by
      funext j c'; exact carry_start m c _
    rw [e]; exact held_bot 1
  prior := by
    have e : (fun j c' => carry (start m c) (ix3 0 j c')) = fun (_ : Fin 1023) (_ : Fin 3) => (⊥ : EReal) := by
      funext j c'; exact carry_start m c _
    rw [e]; exact held_bot 0
  rows s hs := absurd hs (Nat.not_lt_zero _)

/-- The scan's results. -/
theorem found_end (hx : Bounded (given m c)) (p q : Fin 1023) (j : Fin 1023) (hj : p.val + j.val = 511 + (p.val + q.val) / 2) (k : Fin 3) :
    found (STEP^[2045] (start m c)) (ix3 ⟨p.val + q.val, by omega⟩ j k) = L (comp (cell (Xw (given m c)) (p.val + q.val) p.val) k) :=
  ((before_start m c hx).iterate 2045 le_rfl).rows ⟨p.val + q.val, by omega⟩ (by show p.val + q.val < 2045; omega) j p.val hj p.isLt
    (by show p.val + q.val < 1023 + p.val; omega) k
-- ==== Proof.RFinal.lean ====
/- The reference's result over the extended reals. -/
module

public import proofs.«01_k».proof.Proof.REntry

@[expose] public section

set_option maxRecDepth 16384

noncomputable section

namespace Cert.ReferenceIdeal.Value

open Idealize.ShloMosaic Idealize.ShloMosaic.TcCoe Idealize.SL.Sem
open Idealize.ShloMosaic.StableHlo Idealize.ShloMosaic.Tactic
open Cert.ReferenceIdeal Cert.ReferenceIdeal.Gen Cert.Soft

/-- The place of each entry of the matrix in the flattened results. -/
def flatAt : IVec S1023x1023x1 32 :=
  broadcastInDim S1023x1023x1 ![0, 1] bcast_S1023x1023_S1023x1023x1_0_1
    (addi (muli rowOf (broadcastInDim S1023x1023 ![] bcast_S_S1023x1023 (constantI S_ 32 1023#32))) placeOf)

/-- A component of each cell with what follows it. -/
def closed (V : Valuation τ sig (Elt Ideal)) : FVec Ideal S1023x1023x3 .f32 :=
  Host.divf (addf (Host.gather gather_S2092035x3_S1023x1023x1_S1023x1023x3_2_0_n_n_0_2_13
      (shapeCast S2092035x3 (found V) shapeCasts_S2045x1023x3_S2092035x3) flatAt)
    (broadcastInDim S1023x1023x3 ![0, 1, 2] bcast_S1023x1023x1_S1023x1023x3_0_1_2
      (broadcastInDim S1023x1023x1 ![0, 1] bcast_S1023x1023_S1023x1023x1_0_1
        (extractStridedSlice S1023x1023 ![1, 1] (V (Proc.devRef .tc main_arg0)) slices_S1024x1024_S1023x1023_1_1))))
    (broadcastInDim S1023x1023x3 ![] bcast_S_S1023x1023x3 (constant S_ .f32 0x3F800000#32))

def highest (y : FVec Ideal S1023x1023x3 .f32) : FVec Ideal S_ .f32 :=
  Host.reduce FloatOps.maximumf y (constant S_ .f32 0xFF800000#32) reducesTo_S1023x1023x3_S_d0_1_2 h_S_

/-- What is subtracted, given the highest value. -/
def takenOf (h : FVec Ideal S_ .f32) : FVec Ideal S_ .f32 :=
  select (cmpf .olt (Host.absf h) (constant S_ .f32 0x7F800000#32)) h (constant S_ .f32 0x00000000#32)

def scoredBy (y : FVec Ideal S1023x1023x3 .f32) (g : FVec Ideal S_ .f32) : FVec Ideal S_ .f32 :=
  mulf (constant S_ .f32 0x3F800000#32) (addf (Host.log (Host.reduceAdd (Host.exp (subf y
    (broadcastInDim S1023x1023x3 ![0, 1, 2] bcast_S1x1x1_S1023x1023x3_0_1_2 (broadcastInDim S1x1x1 ![] bcast_S_S1x1x1 g))))
    (constant S_ .f32 0x00000000#32) reducesTo_S1023x1023x3_S_d0_1_2 h_S_)) g)

theorem takenOf_real (h : FVec Ideal S_ .f32) : ∃ g : ℝ, takenOf h ix0 = (g : EReal) := by
  unfold takenOf
  pointwise []
  rw [bits_high]
  exact guarded _

theorem scoredBy_apply (y : FVec Ideal S1023x1023x3 .f32) (g : FVec Ideal S_ .f32) :
    scoredBy y g ix0 = Ideal.log (∑ p : Fin 1023, ∑ q : Fin 1023, ∑ k : Fin 3, Ideal.exp (y (ix3 p q k) - g ix0)) + g ix0 := by
  unfold scoredBy
  pointwise []

theorem scoredBy_real (y : FVec Ideal S1023x1023x3 .f32) (g : FVec Ideal S_ .f32) (hg : ∃ r : ℝ, g ix0 = (r : EReal))
    (w : Fin 1023 → Fin 1023 → Fin 3 → ℝ) (hw : ∀ p q k, 0 ≤ w p q k) (h : ∀ p q k, y (ix3 p q k) = L (w p q k)) :
    scoredBy y g ix0 = L (∑ p, ∑ q, ∑ k, w p q k) := by
  obtain ⟨r, hr⟩ := hg
  rw [scoredBy_apply, hr]
  simp only [h]
  have e := logsumexp (Finset.univ : Finset (Fin 1023 × Fin 1023 × Fin 3)) (fun i => w i.1 i.2.1 i.2.2) (fun i => hw _ _ _) r
  simp only [Fintype.sum_prod_type] at e
  exact e

theorem flatAt_apply (p q : Fin 1023) : flatAt (ix3 p q 0) = BitVec.ofNat 32 ((p.val + q.val) * 1023 + (q.val + 1022 - p.val) / 2) := by
  unfold flatAt
  pointwise []
  rw [rowOf_word, placeOf_word]
  generalize p.val + q.val = a
  generalize (q.val + 1022 - p.val) / 2 = b
  rw [BitVec.ofNat_add, BitVec.ofNat_mul]
  rfl

/-- Which of the flattened results an entry reads. -/
theorem gather_apply (x : FVec Ideal S2092035x3 .f32) (idx : IVec S1023x1023x1 32) (p q : Fin 1023) (k : Fin 3) (n : Fin 2092035)
    (hn : idx (ix3 p q 0) = BitVec.ofNat 32 n.val) :
    Host.gather gather_S2092035x3_S1023x1023x1_S1023x1023x3_2_0_n_n_0_2_13 x idx (ix3 p q k) = x (ix2 n k) := by
  unfold Host.gather
  refine congrArg x (funext fun a => Fin.ext ?_)
  have hs : gather_S2092035x3_S1023x1023x1_S1023x1023x3_2_0_n_n_0_2_13.siIdx (ix3 p q k) ⟨0, Nat.one_pos⟩ = ix3 p q 0 := by
    funext b
    match b with
    | ⟨0, _⟩ => rfl
    | ⟨1, _⟩ => rfl
    | ⟨2, _⟩ => rfl
  have hl := n.isLt
  match a with
  | ⟨0, _⟩ =>
    show min (idx (gather_S2092035x3_S1023x1023x1_S1023x1023x3_2_0_n_n_0_2_13.siIdx (ix3 p q k) ⟨0, Nat.one_pos⟩)).toInt.toNat (2092035 - 1) + 0 + 0 = n.val
    rw [hs, hn, WordArith.toInt_ofNat_small _ (by omega)]
    omega
  | ⟨1, _⟩ => show 0 + 0 + k.val = k.val; omega

theorem closed_apply (V : Valuation τ sig (Elt Ideal)) (p q : Fin 1023) (k : Fin 3) (j : Fin 1023) (hj : (q.val + 1022 - p.val) / 2 = j.val) :
    closed V (ix3 p q k) = found V (ix3 ⟨p.val + q.val, by omega⟩ j k)
      + (V (Proc.devRef .tc main_arg0) : FVec Ideal S1024x1024 .f32) (ix2 ⟨1 + p.val, by omega⟩ ⟨1 + q.val, by omega⟩) := by
  unfold closed
  pointwise []
  refine (div_one _).trans ?_
  rw [gather_apply _ _ p q k ⟨(p.val + q.val) * 1023 + j.val, by omega⟩ (by rw [flatAt_apply, hj])]
  rw [shapeCast_apply _ _ _ (ix3 (⟨p.val + q.val, by omega⟩ : Fin 2045) j k) (by
    rw [Shape.rowMajor_val_two, Shape.rowMajor_val_three]
    show ((p.val + q.val) * 1023 + j.val) * 3 + k.val = ((p.val + q.val) * 1023 + j.val) * 3 + k.val
    rfl)]

/-- The matrix and the scan's results, in buffers `V`. -/
structure Done (x : Scores) (V : Valuation τ sig (Elt Ideal)) : Prop where
  input : (V (Proc.devRef .tc main_arg0) : FVec Ideal S1024x1024 .f32) = x
  cells : ∀ (p q j : Fin 1023), p.val + j.val = 511 + (p.val + q.val) / 2 → ∀ k : Fin 3,
    found V (ix3 ⟨p.val + q.val, by omega⟩ j k) = L (comp (cell (Xw x) (p.val + q.val) p.val) k)

theorem closed_real {x : Scores} {V : Valuation τ sig (Elt Ideal)} (hx : Bounded x) (h : Done x V) (p q : Fin 1023) (k : Fin 3) :
    closed V (ix3 p q k) = L (comp (cell (Xw x) (p.val + q.val) p.val) k * Zw x (p.val + q.val) p.val) := by
  have hI : Inside (p.val + q.val) p.val := ⟨p.isLt, by omega, by omega⟩
  have hj : (q.val + 1022 - p.val) / 2 < 1023 := by omega
  rw [closed_apply _ p q k ⟨_, hj⟩ rfl, h.cells p q ⟨_, hj⟩ (by show p.val + (q.val + 1022 - p.val) / 2 = _; omega) k,
    ← L_add (comp_nonneg (cell_nonneg (Xw_nonneg _) _ _) k) (Zw_nonneg _ _ _), L_Zw hx hI, h.input]
  refine congrArg (L _ + ·) ?_
  unfold entry
  rw [dif_pos ⟨by omega, by omega⟩]
  congr 1
  funext a
  apply Fin.ext
  match a with
  | ⟨0, _⟩ => show 1 + p.val = p.val + 1; omega
  | ⟨1, _⟩ => show 1 + q.val = p.val + q.val - p.val + 1; omega

/-- The result, of what the scan leaves. -/
theorem out_value {x : Scores} {V : Valuation τ sig (Elt Ideal)} (hx : Bounded x) (h : Done x V) :
    (out_main_v55 V : FVec Ideal S_ .f32) = fun _ => L (whole x) := by
  have e : (out_main_v55 V : FVec Ideal S_ .f32) = scoredBy (closed V) (takenOf (highest (closed V))) := rfl
  rw [e]
  funext (i : S_.Idx)
  have ei : i = ix0 := funext fun a => a.elim0
  rw [ei, scoredBy_real _ _ (takenOf_real _) _ (fun p q k => mul_nonneg (comp_nonneg (cell_nonneg (Xw_nonneg _) _ _) k) (Zw_nonneg _ _ _))
    (closed_real hx h)]
  congr 1
  unfold whole part Cell.total
  refine Finset.sum_congr rfl fun p _ => Finset.sum_congr rfl fun q _ => ?_
  rw [Fin.sum_univ_three, add_mul, add_mul]
  rfl

/-- The reference's result. -/
theorem reference_value (m : (ℓ : Loc nD τ sig) → Buf (Elt Ideal) ℓ) (c : Dev nD) (hx : Bounded (given m c)) :
    (out_main_v55 (STEP^[2045] (entryContents preI m c)) : FVec Ideal S_ .f32) = fun _ => L (whole (given m c)) :=
  out_value hx ⟨iter_main_arg0 m c 2045, fun p q j hj k => found_end m c hx p q j hj k⟩
-- ==== Proof.lean ====
/- The claims, assembled: the frames, the named constant, and the value both programs compute. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_no_plus_infinity
public import proofs.«01_k».proof.Proof.Frames
public import proofs.«01_k».proof.Proof.Given
public import proofs.«01_k».proof.Proof.KTotal
public import proofs.«01_k».proof.Proof.RFinal

@[expose] public section

noncomputable section

namespace Cert.Proof

open Idealize.ShloMosaic Idealize.SL.Sem Cert.Soft

/-- The kernel and the reference, given one matrix with no entry `+∞`, both leave the logarithm of the total weight of its alignments. -/
theorem same_value : algebraic_KernelIdeal_ReferenceIdeal_pre_no_plus_infinity := by
  intro m g m' g' hp he
  have hk : ∀ c, Bounded (Cert.KernelIdeal.Value.arg m c) := fun c => bounded_of_pre _ (hp c)
  have hr : ∀ c, Cert.ReferenceIdeal.Value.given m' c = Cert.KernelIdeal.Value.arg m c := fun c => he c
  refine ⟨fun c => Cert.KernelIdeal.Value.answer m c, Cert.KernelIdeal.Value.run m g, ?_⟩
  refine (θ_run _ _ _).mono (fun r h c => ⟨(h c).1.trans ?_, (h c).2⟩) (Cert.ReferenceIdeal.Value.run m' g')
  have hb : Bounded (Cert.ReferenceIdeal.Value.given m' c) := by rw [hr c]; exact hk c
  refine (Cert.ReferenceIdeal.Value.reference_value m' c hb).trans ?_
  rw [hr c]
  exact (Cert.KernelIdeal.Value.answer_eq m c (hk c)).symm

theorem claim : Cert.Claim :=
  ⟨Cert.Kernel.Gen.facts, Cert.KernelIdeal.Gen.facts, Cert.ReferenceIdeal.Gen.facts, Cert.Pre_no_plus_infinity.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, mask_named, same_value⟩

end Cert.Proof

end
